-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1x512 : Shape := ⟨2, ![1, 512]⟩
abbrev S3x1x512 : Shape := ⟨3, ![3, 1, 512]⟩
abbrev S_ : Shape := ⟨0, ![]⟩
abbrev S3 : Shape := ⟨1, ![3]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S3x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .eq v2 c1_i32_0
  let v5 : BitVec 32 := Scalar.extui v4
  let c0_i32 : BitVec 32 := 0#32
  let v6 : BitVec 1 := Scalar.cmpi .ne v5 c0_i32
  v6

def k0_dev1 : Nat :=
  let c0_i32_67 : BitVec 32 := 0#32
  let c0_i32_65 : BitVec 32 := 0#32
  let c1_i32_66 : BitVec 32 := 1#32
  let v109 : BitVec 32 := Scalar.muli c0_i32_65 c1_i32_66
  let v110 : BitVec 32 := Scalar.addi c0_i32_67 v109
  v110.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .eq v2 c2_i32
  let v8 : BitVec 32 := Scalar.extui v7
  let c0_i32_1 : BitVec 32 := 0#32
  let v9 : BitVec 1 := Scalar.cmpi .ne v8 c0_i32_1
  v9

def k0_dev2 : Nat :=
  let c0_i32_67 : BitVec 32 := 0#32
  let c0_i32_65 : BitVec 32 := 0#32
  let c1_i32_66 : BitVec 32 := 1#32
  let v109 : BitVec 32 := Scalar.muli c0_i32_65 c1_i32_66
  let v110 : BitVec 32 := Scalar.addi c0_i32_67 v109
  v110.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v10 : BitVec 1 := Scalar.cmpi .eq v2 c3_i32
  let v11 : BitVec 32 := Scalar.extui v10
  let c0_i32_2 : BitVec 32 := 0#32
  let v12 : BitVec 1 := Scalar.cmpi .ne v11 c0_i32_2
  v12

def k0_dev3 : Nat :=
  let c0_i32_67 : BitVec 32 := 0#32
  let c0_i32_65 : BitVec 32 := 0#32
  let c1_i32_66 : BitVec 32 := 1#32
  let v109 : BitVec 32 := Scalar.muli c0_i32_65 c1_i32_66
  let v110 : BitVec 32 := Scalar.addi c0_i32_67 v109
  v110.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v13 : BitVec 1 := Scalar.cmpi .eq v2 c2_i32_3
  let v14 : BitVec 32 := Scalar.extui v13
  let c0_i32_4 : BitVec 32 := 0#32
  let v15 : BitVec 1 := Scalar.cmpi .ne v14 c0_i32_4
  v15

def k0_dev4 : Nat :=
  let c0_i32_67 : BitVec 32 := 0#32
  let c1_i32_65 : BitVec 32 := 1#32
  let c1_i32_66 : BitVec 32 := 1#32
  let v109 : BitVec 32 := Scalar.muli c1_i32_65 c1_i32_66
  let v110 : BitVec 32 := Scalar.addi c0_i32_67 v109
  v110.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v16 : BitVec 1 := Scalar.cmpi .eq v2 c3_i32_5
  let v17 : BitVec 32 := Scalar.extui v16
  let c0_i32_6 : BitVec 32 := 0#32
  let v18 : BitVec 1 := Scalar.cmpi .ne v17 c0_i32_6
  v18

def k0_dev5 : Nat :=
  let c0_i32_67 : BitVec 32 := 0#32
  let c1_i32_65 : BitVec 32 := 1#32
  let c1_i32_66 : BitVec 32 := 1#32
  let v109 : BitVec 32 := Scalar.muli c1_i32_65 c1_i32_66
  let v110 : BitVec 32 := Scalar.addi c0_i32_67 v109
  v110.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_7 : BitVec 32 := 3#32
  let v19 : BitVec 1 := Scalar.cmpi .eq v2 c3_i32_7
  let v20 : BitVec 32 := Scalar.extui v19
  let c0_i32_8 : BitVec 32 := 0#32
  let v21 : BitVec 1 := Scalar.cmpi .ne v20 c0_i32_8
  v21

def k0_dev6 : Nat :=
  let c0_i32_67 : BitVec 32 := 0#32
  let c2_i32_65 : BitVec 32 := 2#32
  let c1_i32_66 : BitVec 32 := 1#32
  let v109 : BitVec 32 := Scalar.muli c2_i32_65 c1_i32_66
  let v110 : BitVec 32 := Scalar.addi c0_i32_67 v109
  v110.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_17 : BitVec 32 := 0#32
  let v34 : BitVec 1 := Scalar.cmpi .eq v2 c0_i32_17
  let v35 : BitVec 32 := Scalar.extui v34
  let c0_i32_18 : BitVec 32 := 0#32
  let v36 : BitVec 1 := Scalar.cmpi .ne v35 c0_i32_18
  v36

def k0_dev7 : Nat :=
  let c0_i32_69 : BitVec 32 := 0#32
  let c1_i32_67 : BitVec 32 := 1#32
  let c1_i32_68 : BitVec 32 := 1#32
  let v109 : BitVec 32 := Scalar.muli c1_i32_67 c1_i32_68
  let v110 : BitVec 32 := Scalar.addi c0_i32_69 v109
  v110.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let v37 : BitVec 1 := Scalar.cmpi .eq v2 c0_i32_19
  let v38 : BitVec 32 := Scalar.extui v37
  let c0_i32_20 : BitVec 32 := 0#32
  let v39 : BitVec 1 := Scalar.cmpi .ne v38 c0_i32_20
  v39

def k0_dev8 : Nat :=
  let c0_i32_69 : BitVec 32 := 0#32
  let c2_i32_67 : BitVec 32 := 2#32
  let c1_i32_68 : BitVec 32 := 1#32
  let v109 : BitVec 32 := Scalar.muli c2_i32_67 c1_i32_68
  let v110 : BitVec 32 := Scalar.addi c0_i32_69 v109
  v110.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v40 : BitVec 1 := Scalar.cmpi .eq v2 c0_i32_21
  let v41 : BitVec 32 := Scalar.extui v40
  let c0_i32_22 : BitVec 32 := 0#32
  let v42 : BitVec 1 := Scalar.cmpi .ne v41 c0_i32_22
  v42

def k0_dev9 : Nat :=
  let c0_i32_69 : BitVec 32 := 0#32
  let c3_i32_67 : BitVec 32 := 3#32
  let c1_i32_68 : BitVec 32 := 1#32
  let v109 : BitVec 32 := Scalar.muli c3_i32_67 c1_i32_68
  let v110 : BitVec 32 := Scalar.addi c0_i32_69 v109
  v110.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v43 : BitVec 1 := Scalar.cmpi .eq v2 c1_i32_23
  let v44 : BitVec 32 := Scalar.extui v43
  let c0_i32_24 : BitVec 32 := 0#32
  let v45 : BitVec 1 := Scalar.cmpi .ne v44 c0_i32_24
  v45

def k0_dev10 : Nat :=
  let c0_i32_69 : BitVec 32 := 0#32
  let c2_i32_67 : BitVec 32 := 2#32
  let c1_i32_68 : BitVec 32 := 1#32
  let v109 : BitVec 32 := Scalar.muli c2_i32_67 c1_i32_68
  let v110 : BitVec 32 := Scalar.addi c0_i32_69 v109
  v110.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v46 : BitVec 1 := Scalar.cmpi .eq v2 c1_i32_25
  let v47 : BitVec 32 := Scalar.extui v46
  let c0_i32_26 : BitVec 32 := 0#32
  let v48 : BitVec 1 := Scalar.cmpi .ne v47 c0_i32_26
  v48

def k0_dev11 : Nat :=
  let c0_i32_69 : BitVec 32 := 0#32
  let c3_i32_67 : BitVec 32 := 3#32
  let c1_i32_68 : BitVec 32 := 1#32
  let v109 : BitVec 32 := Scalar.muli c3_i32_67 c1_i32_68
  let v110 : BitVec 32 := Scalar.addi c0_i32_69 v109
  v110.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_27 : BitVec 32 := 2#32
  let v49 : BitVec 1 := Scalar.cmpi .eq v2 c2_i32_27
  let v50 : BitVec 32 := Scalar.extui v49
  let c0_i32_28 : BitVec 32 := 0#32
  let v51 : BitVec 1 := Scalar.cmpi .ne v50 c0_i32_28
  v51

def k0_dev12 : Nat :=
  let c0_i32_69 : BitVec 32 := 0#32
  let c3_i32_67 : BitVec 32 := 3#32
  let c1_i32_68 : BitVec 32 := 1#32
  let v109 : BitVec 32 := Scalar.muli c3_i32_67 c1_i32_68
  let v110 : BitVec 32 := Scalar.addi c0_i32_69 v109
  v110.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S_, .f32⟩
  | .hbm, ⟨2, _⟩ => ⟨S_, .f32⟩
  | .hbm, ⟨3, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
# The kernel's protocol: who signals, who sends, what each message hands over

Four devices, each with a block of 512 rows. Device `j` tells every device `k < j` (one unit on `k`'s barrier
semaphore) that its receive buffer may be written; device `k` waits for its `3 - k` units and then copies the column
sums of its block into slot `k` of every `j > k`. So for every pair `k < j` there are three messages:

* a unit on `k`'s barrier, paid by `j`, handing over slot `k` of `j`'s receive buffer;
* the credit of `k`'s own send semaphore for `j`, handing back the share of `k`'s send buffer the copy read;
* the credit of `j`'s receive semaphore for `k`, handing over slot `k` of `j`'s receive buffer, now holding `k`'s sums.

Besides them each device copies its block of `x` from HBM to VMEM on one semaphore of its own. All of it is one round
of the rounds library. Everything is stated for any float values.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds and this kernel's, whose duties are named by a device -/

/-- The ghost state of this kernel's rounds, -/
abbrev UB : Type := URounds (GSem nD τ sig) (Dev nD)
/-- beside that of the pipeline's. -/
abbrev UU : Type := UR sig nD τ × UB

local notation "𝕄" => MT nD τ sig Unit (Elt F) ℕ UU ℕ

/-- Where the pipeline's part lies in it, -/
abbrev EP : Emb (UR sig nD τ) (MT nD τ sig Unit (Elt F) ℕ UU ℕ) := embL
/-- and where this kernel's does. -/
abbrev ER : Emb UB (MT nD τ sig Unit (Elt F) ℕ UU ℕ) := embR

variable (m : (ℓ : Loc nD τ sig) → Buf (Elt F) ℓ)

/-! ## Buffers, semaphores, cells -/

/-- The block of `x` in HBM, -/
abbrev xM : Memref sig .tc .hbm S512x512 .f32 := Memref.whole main_arg0
/-- the output's staging buffer, -/
abbrev oM : Memref sig .tc .vmem S512x512 .f32 := Memref.whole cc0_stg0_0
/-- the VMEM copy of `x`, -/
abbrev vM : Memref sig .tc .vmem S512x512 .f32 := Memref.whole cc0_scratch0
/-- the send buffer, -/
abbrev sM : Memref sig .tc .vmem S1x512 .f32 := Memref.whole cc0_scratch1
/-- and the receive buffer with its three slots. -/
abbrev rM : Memref sig .tc .vmem S3x1x512 .f32 := Memref.whole cc0_scratch2

/-- Where slot `k` of the receive buffer starts (there are three; the last device sends nothing). -/
def slotOff (k : Dev nD) : Fin 3 → ℕ := ![min k.val 2, 0, 0]
/-- A slot lies in the receive buffer. -/
theorem slotOff_inb (k : Dev nD) : ∀ a : Fin S3x1x512.rank, slotOff k a + S1x1x512.size a ≤ S3x1x512.size a := by
  revert k; decide
/-- The rectangle of slot `k`. -/
abbrev slotR (k : Dev nD) : Rect S3x1x512 := Rect.unit (s := S3x1x512) (slotOff k) S1x1x512.size (slotOff_inb k)
/-- Slot `k` of the receive buffer. -/
abbrev slotM (k : Dev nD) : Memref sig .tc .vmem S1x512 .f32 :=
  ((rM : Memref sig .tc .vmem S3x1x512 .f32).slice (slotR k) (fun _ => rfl)).squeeze S1x512 squeezes_S1x1x512_S1x512

/-- The runtime's barrier semaphore. -/
abbrev barS : Sem sig := (SemArray.scalar (sig.barrier 0 rfl) : Sems sig S_).sem
/-- The semaphore of the copy of `x`; -/
abbrev inS : DmaSem sig := (cc0_scratch3 : DmaSems sig S_).sem
/-- the one a device's transfer to device `j` completes on at the sender (`j ≥ 1`); -/
def sendS (j : Dev nD) : DmaSem sig := ⟨j.val - 1 + 2, by have := j.isLt; show _ < 8; have : nD = 4 := rfl; omega⟩
/-- the one device `k`'s transfer completes on at the receiver (`k ≤ 2`). -/
def recvS (k : Dev nD) : DmaSem sig := ⟨min k.val 2 + 5, by show _ < 8; omega⟩

/-- The barrier of device `c`, -/
abbrev barCell (c : Dev nD) : GSem nD τ sig := ((c : Thread nD τ), .reg barS)
/-- the semaphore of its copy of `x`, -/
abbrev inCell (c : Dev nD) : GSem nD τ sig := ((c : Thread nD τ), .dma inS)
/-- that of its send to `j`, -/
abbrev sendCell (c j : Dev nD) : GSem nD τ sig := ((c : Thread nD τ), .dma (sendS j))
/-- and that of what it receives from `k`. -/
abbrev recvCell (c k : Dev nD) : GSem nD τ sig := ((c : Thread nD τ), .dma (recvS k))

/-- What one transfer of column sums credits, and what the copy of `x` credits. -/
abbrev N : ℕ := (slotM (0 : Dev nD)).view.dmaCredit
/-- The credit of the copy of `x`. -/
abbrev NX : ℕ := (vM : Memref sig .tc .vmem S512x512 .f32).view.dmaCredit
/-- Both credits are positive. -/
theorem N_pos : 0 < N := View.dmaCredit_pos _ (by decide)
theorem NX_pos : 0 < NX := View.dmaCredit_pos _ (by decide)

/-! ## Contents -/

/-- Device `c`'s block of `x`, as its HBM buffer holds it at launch. -/
def xin (c : Dev nD) : Vec F S512x512 .f32 := m ((c : Thread nD τ).loc main_arg0)
/-- The column sums of that block. -/
def tot (c : Dev nD) : Vec F S1x512 .f32 := k0_pay1 (xin m c)

/-! ## The pieces of memory messages hand over -/

/-- The share of the send buffer that the transfer to device `j` reads. -/
def shr (j : Dev nD) : PosShare TreeShare := Ring.shares3 fullShare ⟨j.val - 1, by have := j.isLt; have : nD = 4 := rfl; omega⟩

/-- Device `c` owns its block of `x`, -/
def xPts (c : Dev nD) : sProp 𝕄 := (xM.view.loc (c : Thread nD τ) ↦[xM.view.set]{fullShare} xin m c)
/-- its VMEM copy, with contents `f`, -/
def vPts (c : Dev nD) (f : Vec F S512x512 .f32) : sProp 𝕄 := (vM.view.loc (c : Thread nD τ) ↦[vM.view.set]{fullShare} f)
/-- a share of its send buffer. -/
def sPts (c : Dev nD) (q : PosShare TreeShare) (f : Vec F S1x512 .f32) : sProp 𝕄 := (sM.view.loc (c : Thread nD τ) ↦[sM.view.set]{q} f)
/-- Slot `k` of device `c`'s receive buffer, at contents `f` of the buffer. -/
def slotPts (c k : Dev nD) (f : Vec F S3x1x512 .f32) : sProp 𝕄 :=
  ((slotM k).view.loc (c : Thread nD τ) ↦[(slotM k).view.set]{fullShare} f)
/-- The slot holding something. -/
def slotAny (c k : Dev nD) : sProp 𝕄 := iprop(∃ f, slotPts c k f)
/-- The slot holding `k`'s column sums. -/
def slotSum (c k : Dev nD) : sProp 𝕄 := iprop(∃ f, ⌜(slotM k).view.read (Elt F) f = tot m k⌝ ∗ slotPts c k f)
/-- What the copy of `x` hands back: the VMEM copy holding `x`, and `x` itself. -/
def inPay (c : Dev nD) : sProp 𝕄 := iprop(vPts c (xin m c) ∗ xPts m c)

omit [FloatOps F] in
instance xPts_storable (c : Dev nD) : BI.Storable (upEmb : UEmb _ 𝕄) (xPts m c) := by unfold xPts; infer_instance
omit [FloatOps F] in
instance vPts_storable (c : Dev nD) (f) : BI.Storable (upEmb : UEmb _ 𝕄) (vPts (F := F) c f) := by unfold vPts; infer_instance
omit [FloatOps F] in
instance sPts_storable (c : Dev nD) (q f) : BI.Storable (upEmb : UEmb _ 𝕄) (sPts (F := F) c q f) := by unfold sPts; infer_instance
omit [FloatOps F] in
instance slotPts_storable (c k : Dev nD) (f) : BI.Storable (upEmb : UEmb _ 𝕄) (slotPts (F := F) c k f) := by unfold slotPts; infer_instance
omit [FloatOps F] in
instance slotAny_storable (c k : Dev nD) : BI.Storable (upEmb : UEmb _ 𝕄) (slotAny (F := F) c k) := by unfold slotAny; infer_instance
instance slotSum_storable (c k : Dev nD) : BI.Storable (upEmb : UEmb _ 𝕄) (slotSum m c k) := by unfold slotSum; infer_instance
omit [FloatOps F] in
instance inPay_storable (c : Dev nD) : BI.Storable (upEmb : UEmb _ 𝕄) (inPay m c) := by unfold inPay; infer_instance

/-! ## The schedule -/

/-- Who pays a semaphore of device `o` in the one round: its barrier every device after it; the semaphore of the copy
    of `x` the duty `0`; its send semaphore for a later device `j` the duty `j`; its receive semaphore for an earlier
    device `k` the duty `k`. -/
def dutyOf (o : Dev nD) : SemLoc sig → Finset (Dev nD)
  | .reg _ => Finset.univ.filter (o < ·)
  | .dma i => if i = inS then {0} else Finset.univ.filter fun d => (sendS d = i ∧ o < d) ∨ (recvS d = i ∧ d < o)

/-- What the payment hands over. -/
def payOf (o : Dev nD) (s : SemLoc sig) (d : Dev nD) : sProp 𝕄 := match s with
  | .reg _ => slotAny d o
  | .dma i => if i = inS then inPay m o else if i.val < 5 then sPts o (shr d) (tot m o) else slotSum m o d

/-- The units that one duty of a semaphore pays. -/
def amountOf (s : SemLoc sig) : ℕ := match s with
  | .reg _ => 1
  | .dma i => if i = inS then NX else N

instance payOf_storable (o : Dev nD) (s : SemLoc sig) (d : Dev nD) : BI.Storable (upEmb : UEmb _ 𝕄) (payOf m o s d) := by
  unfold payOf; (repeat' split) <;> infer_instance

/-- The schedule: one round, in which each duty pays its amount and hands over its payload. -/
def sched : Rounds.Schedule (GSem nD τ sig) (Dev nD) 𝕄 where
  duties g r := if r = 0 ∧ g.1.2 = .tc then dutyOf g.1.1 g.2 else ∅
  unitless _ := False
  amount g _ _ := amountOf g.2
  payload g _ d := payOf m g.1.1 g.2 d
  amount_pos g _ _ _ := by
    unfold amountOf
    (repeat' split)
    exacts [Nat.one_pos, NX_pos, N_pos]

instance sched_storable (g : GSem nD τ sig) (r : ℕ) (d : Dev nD) : BI.Storable (upEmb : UEmb _ 𝕄) ((sched m).payload g r d) :=
  payOf_storable m _ _ _

/-- The duties of round zero are the ones above, -/
theorem duties_zero (c : Dev nD) (s : SemLoc sig) : (sched m).duties ((c : Thread nD τ), s) 0 = dutyOf c s := by
  dsimp only [sched]; exact if_pos ⟨rfl, rfl⟩
/-- and no later round has any. -/
theorem duties_later (g : GSem nD τ sig) : ∀ r, 1 ≤ r → (sched m).duties g r = ∅ :=
  fun r hr => by dsimp only [sched]; exact if_neg fun h => by omega

/-- The duties of each kind of semaphore, where there are any -/
theorem duty_in (c : Dev nD) : dutyOf c (.dma inS) = {0} := by unfold dutyOf; dsimp only; rw [if_pos rfl]
theorem duty_send {c j : Dev nD} (h : c < j) : dutyOf c (.dma (sendS j)) = {j} := by revert h; revert c j; decide
theorem duty_recv {c k : Dev nD} (h : k < c) : dutyOf c (.dma (recvS k)) = {k} := by revert h; revert c k; decide
/-- and where there are none. -/
theorem duty_send_none {c j : Dev nD} (hj : j ≠ 0) (h : ¬ c < j) : dutyOf c (.dma (sendS j)) = ∅ := by revert hj h; revert c j; decide
theorem duty_recv_none {c k : Dev nD} (hk : k ≠ 3) (h : ¬ k < c) : dutyOf c (.dma (recvS k)) = ∅ := by revert hk h; revert c k; decide
theorem duty_bar_last : dutyOf (3 : Dev nD) (.reg barS) = ∅ := by decide

/-- The send and receive semaphores are not that of the copy of `x`. -/
theorem sendS_ne_in (j : Dev nD) : sendS j ≠ inS := by revert j; decide
theorem recvS_ne_in (k : Dev nD) : recvS k ≠ inS := by revert k; decide
/-- The numbers tell the send semaphores from the receive semaphores. -/
theorem sendS_lt (j : Dev nD) : (sendS j).val < 5 := by revert j; decide
theorem recvS_ge (k : Dev nD) : ¬ (recvS k).val < 5 := by revert k; decide

/-- The amounts, semaphore by semaphore. -/
theorem amount_send (j : Dev nD) : amountOf (.dma (sendS j)) = N := by unfold amountOf; dsimp only; rw [if_neg (sendS_ne_in j)]
theorem amount_recv (k : Dev nD) : amountOf (.dma (recvS k)) = N := by unfold amountOf; dsimp only; rw [if_neg (recvS_ne_in k)]
theorem amount_in : amountOf (.dma inS) = NX := by unfold amountOf; dsimp only; rw [if_pos rfl]

/-- The payloads, semaphore by semaphore. -/
theorem pay_in (c d : Dev nD) : payOf m c (.dma inS) d = inPay m c := by unfold payOf; dsimp only; rw [if_pos rfl]
theorem pay_send (c j d : Dev nD) : payOf m c (.dma (sendS j)) d = sPts c (shr d) (tot m c) := by
  unfold payOf; dsimp only; rw [if_neg (sendS_ne_in j), if_pos (sendS_lt j)]
theorem pay_recv (c k d : Dev nD) : payOf m c (.dma (recvS k)) d = slotSum m c d := by
  unfold payOf; dsimp only; rw [if_neg (recvS_ne_in k), if_neg (recvS_ge k)]

/-- The round's total at a cell of device `c`: its number of duties times the amount of one. -/
theorem expect_eq (c : Dev nD) (s : SemLoc sig) :
    (sched m).expect ((c : Thread nD τ), s) 0 = (dutyOf c s).card * amountOf s := by
  unfold Schedule.expect Schedule.amountOf
  rw [duties_zero]
  exact (Finset.sum_const (amountOf s)).trans (smul_eq_mul _ _)

/-- What a whole round of a cell hands over. -/
theorem rest_eq (c : Dev nD) (s : SemLoc sig) :
    bigSep ((sched m).duties ((c : Thread nD τ), s) 0 \ ∅) (fun d => (sched m).payload ((c : Thread nD τ), s) 0 d)
      = bigSep (dutyOf c s) (payOf m c s) := by
  rw [Finset.sdiff_empty, duties_zero]; rfl

/-! ## What each device owes; the levels that rule out a deadlock -/

/-- A tally owed only under a condition. -/
def owedIf (p : Prop) [Decidable p] (t : CellTallies nD τ sig Unit) : CellTallies nD τ sig Unit := if p then t else 0

/-- The pairs of devices `k < j`, in the order the kernel goes through them. -/
abbrev pairs : List (Dev nD × Dev nD) := [(0, 1), (0, 2), (0, 3), (1, 2), (1, 3), (2, 3)]

/-- What device `c` still owes the receivers of the pairs in a list: its transfer's credit; -/
def owesSends (c : Dev nD) : List (Dev nD × Dev nD) → CellTallies nD τ sig Unit
  | [] => 0
  | p :: l => owesSends c l + owedIf (c = p.1) (tallyAt (recvCell p.2 c) () N)
/-- and, before that, what it still owes the barriers of the pairs in a list: a unit. -/
def owesAll (c : Dev nD) : List (Dev nD × Dev nD) → CellTallies nD τ sig Unit
  | [] => owesSends c pairs
  | p :: l => owesAll c l + owedIf (c = p.2) (tallyAt (barCell p.1) () 1)
/-- What device `c` owes at launch. -/
abbrev O₀ (c : Dev nD) : CellTallies nD τ sig Unit := owesAll c pairs

/-- The levels are levels of the TensorCores' cells. -/
def L (g : GSem nD τ sig) : Finset Unit := if g.1.2 = .tc then {()} else ∅
/-- A semaphore's level: receive semaphores above the barrier, everything else below it. -/
def level : SemLoc sig → ℕ
  | .reg _ => 1
  | .dma i => if i.val < 5 then 0 else 2
/-- A cell's level is its semaphore's. -/
def lv (g : GSem nD τ sig) (_ : Unit) : ℕ := level g.2

/-- No other cell has a level, -/
theorem L_of_ne (g : GSem nD τ sig) (h : g.1.2 ≠ .tc) : L g = ∅ := if_neg h
/-- and each of these has one. -/
theorem L_tc (c : Dev nD) (sm : SemLoc sig) : L ((c : Thread nD τ), sm) = {()} := if_pos rfl

/-- A conditional debt to a cell is to that cell only. -/
theorem tally_pos {g h : GSem nD τ sig} {n : ℕ} {p : Prop} [Decidable p] (hp : 0 < owedIf p (tallyAt h () n) g ()) : g = h := by
  unfold owedIf at hp
  split at hp
  · rw [tallyAt_apply] at hp
    by_contra hne
    rw [if_neg fun e => hne e.1] at hp; exact Nat.lt_irrefl 0 hp
  · exact absurd hp (Nat.lt_irrefl 0)

/-- Only receive cells are owed by pending transfers; -/
theorem owesSends_pos {c : Dev nD} {g : GSem nD τ sig} : ∀ {l : List (Dev nD × Dev nD)}, 0 < owesSends c l g () → g.1.2 = .tc ∧ level g.2 = 2
  | [], h => absurd h (Nat.lt_irrefl 0)
  | p :: l, h => by
    unfold owesSends at h
    rw [Pi.add_apply, Finsupp.add_apply] at h
    rcases Nat.add_pos_iff_pos_or_pos.mp h with h | h
    · exact owesSends_pos h
    · rw [tally_pos h]; exact ⟨rfl, by unfold level; dsimp only; rw [if_neg (recvS_ge c)]⟩
/-- and receive and barrier cells by everything pending. -/
theorem owesAll_pos {c : Dev nD} {g : GSem nD τ sig} : ∀ {l : List (Dev nD × Dev nD)}, 0 < owesAll c l g () → g.1.2 = .tc ∧ 1 ≤ level g.2
  | [], h => by obtain ⟨h1, h2⟩ := owesSends_pos (l := pairs) h; exact ⟨h1, by omega⟩
  | p :: l, h => by
    unfold owesAll at h
    rw [Pi.add_apply, Finsupp.add_apply] at h
    rcases Nat.add_pos_iff_pos_or_pos.mp h with h | h
    · exact owesAll_pos h
    · rw [tally_pos h]; exact ⟨rfl, Nat.le_refl 1⟩

omit [FloatOps F] in
/-- A device may wait on a semaphore whose level is below that of everything it owes. -/
theorem mayWait (c : Dev nD) (s : SemLoc sig) (O : CellTallies nD τ sig Unit)
    (hO : ∀ g, 0 < O g () → g.1.2 = .tc ∧ level s < level g.2) :
    (levAts L lv : sProp 𝕄) ⊢ MayWait (c : Thread nD τ) s () O :=
  MayOwe.of_cut (L := L) (lev := lv) (level s) (fun p hp => by rw [Finset.mem_singleton.mp hp, L_tc]; exact Finset.mem_singleton_self _)
    (fun g u hg => by unfold L; rw [if_pos (hO g hg).1]; exact Finset.mem_singleton_self _)
    (fun p hp => by rw [Finset.mem_singleton.mp hp]; exact Nat.le_refl _)
    (fun g u hg => (hO g hg).2)

end Cert.ScanProof

end
-- ==== Proof.Steps.lean ====
/-
# The kernel's statements, one lemma each

Every message statement of the kernel stands under a condition on the device's number. Each lemma here runs one such
statement on any device: what the statement takes and leaves is held under the same condition (`onlyIf`), so the body
is run once for all four devices.
-/
module

public import proofs.«01_k».proof.Proof.Protocol

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Resources under a condition -/

/-- `X` when `p` holds, nothing otherwise. -/
def onlyIf (p : Prop) [Decidable p] (X : sProp 𝕄) : sProp 𝕄 := if p then X else iprop(emp)

omit [FloatOps F] in
/-- Where the condition holds it is the assertion itself, -/
theorem onlyIf_pos {p : Prop} [Decidable p] (h : p) (X : sProp 𝕄) : onlyIf p X = X := if_pos h
omit [FloatOps F] in
/-- elsewhere nothing. -/
theorem onlyIf_neg {p : Prop} [Decidable p] (h : ¬ p) (X : sProp 𝕄) : onlyIf p X = iprop(emp) := if_neg h
omit [FloatOps F] in
/-- It may be weakened under its condition. -/
theorem onlyIf_mono {p : Prop} [Decidable p] {X Y : sProp 𝕄} (h : p → X ⊢ Y) : onlyIf p X ⊢ onlyIf p Y := by
  by_cases hp : p
  · rw [onlyIf_pos hp, onlyIf_pos hp]; exact h hp
  · rw [onlyIf_neg hp, onlyIf_neg hp]
omit [FloatOps F] in
/-- Two under one condition join. -/
theorem onlyIf_sep (p : Prop) [Decidable p] (X Y : sProp 𝕄) : iprop(onlyIf p X ∗ onlyIf p Y) ⊢ onlyIf p iprop(X ∗ Y) := by
  by_cases hp : p
  · rw [onlyIf_pos hp, onlyIf_pos hp, onlyIf_pos hp]
  · rw [onlyIf_neg hp, onlyIf_neg hp, onlyIf_neg hp]; iintro -; iempintro
omit [FloatOps F] in
/-- `X` is `X` under a condition or under its opposite. -/
theorem onlyIf_split (p : Prop) [Decidable p] (X : sProp 𝕄) : X ⊢ iprop(onlyIf p X ∗ onlyIf (¬ p) X) := by
  by_cases hp : p
  · rw [onlyIf_pos hp, onlyIf_neg (not_not_intro hp)]; iintro H; isplitl; · iexact H
    iempintro
  · rw [onlyIf_neg hp, onlyIf_pos hp]; iintro H; isplitr; · iempintro
    iexact H
omit [FloatOps F] in
/-- A condition that is one of two exclusive ones splits into them. -/
theorem onlyIf_or {p q r : Prop} [Decidable p] [Decidable q] [Decidable r] (h : p ↔ q ∨ r) (hd : ¬ (q ∧ r)) (X : sProp 𝕄) :
    onlyIf p X ⊣⊢ iprop(onlyIf q X ∗ onlyIf r X) := by
  by_cases hq : q
  · rw [onlyIf_pos (h.mpr (.inl hq)), onlyIf_pos hq, onlyIf_neg fun hr => hd ⟨hq, hr⟩]
    refine ⟨?_, ?_⟩
    · iintro H; isplitl; · iexact H
      iempintro
    · iintro ⟨H, -⟩; iexact H
  · by_cases hr : r
    · rw [onlyIf_pos (h.mpr (.inr hr)), onlyIf_neg hq, onlyIf_pos hr]
      refine ⟨?_, ?_⟩
      · iintro H; isplitr; · iempintro
        iexact H
      · iintro ⟨-, H⟩; iexact H
    · rw [onlyIf_neg fun hp => (h.mp hp).elim hq hr, onlyIf_neg hq, onlyIf_neg hr]
      refine ⟨?_, ?_⟩
      · iintro -; isplitl <;> iempintro
      · iintro -; iempintro

omit [FloatOps F] in
/-- What is held before device 1 is held on device 0; -/
theorem before_one (c : Dev nD) (X : sProp 𝕄) : onlyIf (c < 1) X ⊣⊢ onlyIf (c = 0) X := by
  have h : (c < 1) = (c = 0) := propext (by revert c; decide)
  unfold onlyIf; simp only [h]; exact ⟨.rfl, .rfl⟩
omit [FloatOps F] in
/-- before device 2, on 0 or 1; -/
theorem before_two (c : Dev nD) (X : sProp 𝕄) : onlyIf (c < 2) X ⊣⊢ iprop(onlyIf (c = 0) X ∗ onlyIf (c = 1) X) :=
  onlyIf_or (by revert c; decide) (by revert c; decide) X
omit [FloatOps F] in
/-- before device 3, on 0, 1 or 2. -/
theorem before_three (c : Dev nD) (X : sProp 𝕄) :
    onlyIf (c < 3) X ⊣⊢ iprop(onlyIf (c < 2) X ∗ onlyIf (c = 2) X) :=
  onlyIf_or (by revert c; decide) (by revert c; decide) X
omit [FloatOps F] in
/-- Likewise after device 2, 1 and 0. -/
theorem after_two (c : Dev nD) (X : sProp 𝕄) : onlyIf (2 < c) X ⊣⊢ onlyIf (c = 3) X := by
  have h : (2 < c) = (c = 3) := propext (by revert c; decide)
  unfold onlyIf; simp only [h]; exact ⟨.rfl, .rfl⟩
omit [FloatOps F] in
/-- The devices after 1 are 2 and 3; -/
theorem after_one (c : Dev nD) (X : sProp 𝕄) : onlyIf (1 < c) X ⊣⊢ iprop(onlyIf (c = 2) X ∗ onlyIf (c = 3) X) :=
  onlyIf_or (by revert c; decide) (by revert c; decide) X
omit [FloatOps F] in
/-- those after 0 are 1, 2 and 3. -/
theorem after_zero (c : Dev nD) (X : sProp 𝕄) :
    onlyIf (0 < c) X ⊣⊢ iprop(onlyIf (c = 1) X ∗ onlyIf (1 < c) X) :=
  onlyIf_or (by revert c; decide) (by revert c; decide) X

/-! ## The cells' records -/

/-- Every semaphore of the protocol on one device, numbered: the barrier first, then the DMA semaphores by their number. -/
def csem (i : Fin 8) : SemLoc sig := if i = 0 then .reg barS else .dma i
/-- The cell of a device and a number. -/
abbrev kcell (ck : Dev nD × Fin 8) : GSem nD τ sig := ((ck.1 : Thread nD τ), csem ck.2)

/-- Every cell's invariant, at the name it was allocated at, and that it is at round 0 at least. -/
def records (K : Dev nD × Fin 8 → ℕ) : sProp 𝕄 :=
  iprop((bigSep Finset.univ fun ck : Dev nD × Fin 8 => cellInv ER (sched m) (K ck) (kcell ck))
    ∗ bigSep Finset.univ fun ck : Dev nD × Fin 8 => reached ER (kcell ck) 0)

instance records_persistent (K : Dev nD × Fin 8 → ℕ) : BI.Persistent (records m K) := by unfold records; infer_instance

variable (K : Dev nD × Fin 8 → ℕ)

omit [FloatOps F] in
/-- One member of a family. -/
theorem member {I : Type} [Fintype I] [DecidableEq I] (Φ : I → sProp 𝕄) (i : I) : bigSep Finset.univ Φ ⊢ Φ i := bigSep_elim (Finset.mem_univ i)

/-- One cell's. -/
theorem record (c : Dev nD) (i : Fin 8) :
    records m K ⊢ iprop(cellInv ER (sched m) (K (c, i)) ((c : Thread nD τ), csem i) ∗ reached ER ((c : Thread nD τ), csem i) 0) := by
  unfold records
  iintro ⟨H, HR⟩
  isplitl [H]
  · iapply (member (fun ck : Dev nD × Fin 8 => cellInv ER (sched m) (K ck) (kcell ck)) (c, i)) $$ H
  · iapply (member (fun ck : Dev nD × Fin 8 => (reached ER (kcell ck) 0 : sProp 𝕄)) (c, i)) $$ HR

/-- A semaphore that is the protocol's, and its number. -/
theorem csem_bar : csem 0 = .reg barS := rfl
/-- The numbering of the cells agrees with the names of the semaphores. -/
theorem csem_in : csem 1 = .dma inS := rfl
theorem csem_send (j : Dev nD) : csem (sendS j) = .dma (sendS j) := by revert j; decide
theorem csem_recv (k : Dev nD) : csem (recvS k) = .dma (recvS k) := by revert k; decide

/-! ## The statements -/

/-- The body calls nothing and needs no variant. -/
abbrev 𝒱₀ : Variants := Variants.none

/-- Device `c` running a program of the body to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- An assertion holds after no update. -/
theorem to_upd (P : sProp 𝕄) : P ⊢ |={Set.univ}=> P := by iintro H; imodintro; iexact H

/-- A program that is over. -/
theorem runs_ret {α : Type} (c : Dev nD) (a : α) (Q : α → sProp 𝕄) : Q a ⊢ runs (F := F) c (.ret a) Q := by
  show Q a ⊢ wp frame (wpE (defs₀ (F := F)) 𝒱₀ (c : Thread nD τ) none) Set.univ (.ret a) Q
  rw [wp_ret]; exact to_upd _

/-- Device `c` owes `O`, whatever it has waited for. -/
def owing (c : Dev nD) (O : CellTallies nD τ sig Unit) : sProp 𝕄 := iprop(∃ W, owes (c : Thread nD τ) O W)

/-- A conditional debt is the debt where the condition holds, -/
theorem owedIf_pos {p : Prop} [Decidable p] (h : p) (t : CellTallies nD τ sig Unit) : owedIf p t = t := if_pos h
/-- and none elsewhere. -/
theorem owedIf_neg {p : Prop} [Decidable p] (h : ¬ p) (t : CellTallies nD τ sig Unit) : owedIf p t = 0 := if_neg h

/-- The signal to `k`'s barrier, on the device `j` it stands for: slot `k` of `j`'s receive buffer goes with it. -/
theorem signal_if {c k j : Dev nD} (hkj : k < j) {P : Prop} [Decidable P] (hP : P ↔ c = j) {n : P → Dev nD} (hn : ∀ h, n h = k)
    (l : List (Dev nD × Dev nD)) {α : Type} {R : Prog (TpuEff nD τ sig (Elt F) Λ₀ .tc) α} {Q : α → sProp 𝕄} :
    iprop(records m K ∗ owing c (owesAll c ((k, j) :: l))
        ∗ onlyIf (c = j) iprop(dutyTok ER (barCell k) 0 c ∗ slotAny c k))
      ⊢ iprop((owing c (owesAll c l) -∗ runs c R Q)
          -∗ runs c (if h : P then (do semSignalWord (n h) barS 1#32; R) else R) Q) := by
  rw [show owesAll c ((k, j) :: l) = owesAll c l + owedIf (c = j) (tallyAt (barCell k) () 1) from rfl]
  by_cases h : c = j
  · subst h
    rw [dif_pos (hP.mpr rfl), hn, onlyIf_pos rfl, owedIf_pos rfl]
    simp only [semSignalWord, Prog.bind_op, Prog.bind_ret]
    unfold owing
    iintro ⟨#HR, ⟨%W, HO⟩, Htok, Hslot⟩ Hk
    ihave Hr := (record m K k 0) $$ HR
    icases Hr with ⟨HI, Hr⟩
    iapply (Rounds.wp_signal 𝒱₀ ER (sched m) (c : Thread nD τ) none (dst := (k : Thread nD τ)) (κ := K (k, 0)) (r := 0)
      (d := c) (by rw [duties_zero]; exact Finset.mem_filter.mpr ⟨Finset.mem_univ _, hkj⟩) (k' := 1) rfl () (owesAll c l) rfl) $$ [HI Hr HO Htok Hslot]
    · isplitl [HI]; · iexact HI
      isplitl [HO]; · iexact HO
      isplitl [Htok]; · iexact Htok
      isplitl [Hslot]; · iapply (Entails.of_eq (show slotAny c k = (sched m).payload (barCell k) 0 c from rfl)) $$ Hslot
      iexact Hr
    iintro HO
    iapply Hk; iexists W; iexact HO
  · rw [dif_neg fun hp => h (hP.mp hp), owedIf_neg h, add_zero]
    iintro ⟨-, HO, -⟩ Hk
    iapply Hk; iexact HO

/-- A cell the device may wait for the whole round of; -/
def armed (c : Dev nD) (s : SemLoc sig) : sProp 𝕄 :=
  iprop(cred (tallyAt ((c : Thread nD τ), s) () ((sched m).expect ((c : Thread nD τ), s) 0)) ∗ atPos ER ((c : Thread nD τ), s) 0 ∅ 0)
/-- a cell no duty of which is left; -/
def closable (c : Dev nD) (s : SemLoc sig) : sProp 𝕄 :=
  iprop(∃ R : ℕ, ⌜∀ r, R ≤ r → (sched m).duties ((c : Thread nD τ), s) r = ∅⌝ ∗ atPos ER ((c : Thread nD τ), s) R ∅ 0)
/-- a cell waited for: no duty left, and what the round handed over. -/
def done (c : Dev nD) (s : SemLoc sig) : sProp 𝕄 := iprop(closable m c s ∗ bigSep (dutyOf c s) (payOf m c s))

/-- A cell without duties can be closed as it is. -/
theorem closable_idle {c : Dev nD} {s : SemLoc sig} (h : dutyOf c s = ∅) : atPos ER ((c : Thread nD τ), s) 0 ∅ 0 ⊢ closable m c s := by
  unfold closable
  iintro H; iexists 0
  isplitr
  · ipureintro; intro r _
    rcases Nat.eq_zero_or_pos r with rfl | hr
    · rw [duties_zero, h]
    · exact duties_later m _ r hr
  · iexact H

/-- Closing a cell gives its counter back at zero. -/
theorem close (c : Dev nD) (i : Fin 8) :
    iprop(records m K ∗ closable m c (csem i)) ⊢ |={Set.univ}=> semVal ((c : Thread nD τ), csem i) 0 := by
  unfold closable
  iintro ⟨HR, %R, %hR, Hat⟩
  ihave Hr := (record m K c i) $$ HR
  icases Hr with ⟨HI, -⟩
  imod (Rounds.cell_close ER (sched m) (Set.mem_univ (K (c, i))) (fun h => h) (R := R) hR) $$ [HI Hat] with Hz
  · isplitl [HI] <;> iassumption
  imodintro; iexact Hz

/-- A wait for a cell's whole round, below everything the device still owes. -/
theorem wait_round (c : Dev nD) (i : Fin 8) {w : TpuEff nD τ sig (Elt F) Λ₀ .tc PUnit} {n : ℕ}
    (hw : ∀ Q : PUnit → sProp 𝕄, wpE (defs₀ (F := F)) 𝒱₀ (c : Thread nD τ) none Set.univ w Q = waitSpec (c : Thread nD τ) Set.univ (csem i) n Q)
    (hn : (dutyOf c (csem i)).card * amountOf (csem i) = n)
    {O : CellTallies nD τ sig Unit} (hO : ∀ g, 0 < O g () → g.1.2 = .tc ∧ level (csem i) < level g.2)
    {α : Type} {k : PUnit → Prog (TpuEff nD τ sig (Elt F) Λ₀ .tc) α} {Q : α → sProp 𝕄} :
    iprop(records m K ∗ levAts L lv ∗ owing c O ∗ armed m c (csem i))
      ⊢ iprop((iprop(owing c O ∗ done m c (csem i)) -∗ runs c (k ⟨⟩) Q) -∗ runs c (.op w k) Q) := by
  unfold owing armed done
  rw [expect_eq, hn]
  iintro ⟨HR, Hlev, ⟨%W, HO⟩, Hc, Hat⟩ Hk
  ihave Hr := (record m K c i) $$ HR
  icases Hr with ⟨HI, -⟩
  iapply (Rounds.wp_wait_rest_token 𝒱₀ ER (sched m) (c : Thread nD τ) none (κ := K (c, i)) hw (Set.mem_univ _) ()
    (O := O) (W := W) (R := 0) (m := 0) (T := ∅) (by rw [Nat.zero_add, expect_eq, hn])) $$ [HI Hc HO Hlev Hat]
  · isplitl [HI]; · iexact HI
    isplitl [Hc]; · iexact Hc
    isplitl [HO]; · iexact HO
    isplitl [Hlev]; · iapply (mayWait c (csem i) O hO); iexact Hlev
    iexact Hat
  iintro ⟨HO, Hat, -, Hpay⟩
  iapply Hk
  isplitl [HO]; · iexists _; iexact HO
  isplitl [Hat]
  · unfold closable; iexists 1
    isplitr; · ipureintro; exact duties_later m _
    iexact Hat
  · iapply (Entails.of_eq (rest_eq m c (csem i))); iexact Hpay

/-- The same as a statement. -/
theorem wait_all (c : Dev nD) (i : Fin 8) (w : TpuEff nD τ sig (Elt F) Λ₀ .tc PUnit) (n : ℕ)
    (hw : ∀ Q : PUnit → sProp 𝕄, wpE (defs₀ (F := F)) 𝒱₀ (c : Thread nD τ) none Set.univ w Q = waitSpec (c : Thread nD τ) Set.univ (csem i) n Q)
    (hn : (dutyOf c (csem i)).card * amountOf (csem i) = n)
    {O : CellTallies nD τ sig Unit} (hO : ∀ g, 0 < O g () → g.1.2 = .tc ∧ level (csem i) < level g.2)
    {α : Type} {R : Prog (TpuEff nD τ sig (Elt F) Λ₀ .tc) α} {Q : α → sProp 𝕄} :
    iprop(records m K ∗ levAts L lv ∗ owing c O ∗ armed m c (csem i))
      ⊢ iprop((iprop(owing c O ∗ done m c (csem i)) -∗ runs c R Q) -∗ runs c (do Prog.lift w; R) Q) := by
  simp only [Prog.lift, Prog.bind_op, Prog.bind_ret]
  exact wait_round m K c i hw hn hO (k := fun _ => R)

/-- The same under a condition. -/
theorem wait_if {c : Dev nD} (i : Fin 8) {p P : Prop} [Decidable p] [Decidable P] (hP : P ↔ p)
    {q : P → Prog (TpuEff nD τ sig (Elt F) Λ₀ .tc) PUnit} (w : TpuEff nD τ sig (Elt F) Λ₀ .tc PUnit) (hq : ∀ h, q h = .op w .ret) (n : ℕ)
    (hw : ∀ Q : PUnit → sProp 𝕄, wpE (defs₀ (F := F)) 𝒱₀ (c : Thread nD τ) none Set.univ w Q = waitSpec (c : Thread nD τ) Set.univ (csem i) n Q)
    (hn : p → (dutyOf c (csem i)).card * amountOf (csem i) = n)
    {O : CellTallies nD τ sig Unit} (hO : ∀ g, 0 < O g () → g.1.2 = .tc ∧ level (csem i) < level g.2)
    {α : Type} {R : Prog (TpuEff nD τ sig (Elt F) Λ₀ .tc) α} {Q : α → sProp 𝕄} :
    iprop(records m K ∗ levAts L lv ∗ owing c O ∗ onlyIf p (armed m c (csem i)))
      ⊢ iprop((iprop(owing c O ∗ onlyIf p (done m c (csem i))) -∗ runs c R Q)
          -∗ runs c (if h : P then (do q h; R) else R) Q) := by
  by_cases h : p
  · rw [dif_pos (hP.mpr h), onlyIf_pos h, onlyIf_pos h, hq]
    simp only [Prog.bind_op, Prog.bind_ret]
    exact wait_round m K c i hw (hn h) hO (k := fun _ => R)
  · rw [dif_neg fun hp => h (hP.mp hp), onlyIf_neg h, onlyIf_neg h]
    iintro ⟨-, -, HO, -⟩ Hk
    iapply Hk
    isplitl [HO]; · iexact HO
    iempintro

/-- The pending transfers do not stand in the way of a wait below their receive cells; -/
theorem waits_low {c : Dev nD} {s : SemLoc sig} (hs : level s < 2) (l : List (Dev nD × Dev nD)) :
    ∀ g, 0 < owesSends c l g () → g.1.2 = .tc ∧ level s < level g.2 :=
  fun g h => by obtain ⟨h1, h2⟩ := owesSends_pos h; exact ⟨h1, by omega⟩
/-- nothing owed stands in the way of any wait. -/
theorem waits_free {c : Dev nD} {s : SemLoc sig} : ∀ g, 0 < owesSends c [] g () → g.1.2 = .tc ∧ level s < level g.2 :=
  fun g h => absurd h (Nat.lt_irrefl 0)

/-- A cell waited for where it has duties, and left alone where it has none, is done. -/
theorem finish {c : Dev nD} {s : SemLoc sig} {p : Prop} [Decidable p] (h : ¬ p → dutyOf c s = ∅) :
    iprop(onlyIf p (done m c s) ∗ onlyIf (¬ p) (armed m c s)) ⊢ done m c s := by
  by_cases hp : p
  · rw [onlyIf_pos hp, onlyIf_neg (fun h => h hp)]
    iintro ⟨H, -⟩; iexact H
  · rw [onlyIf_neg hp, onlyIf_pos hp]
    unfold armed done
    rw [h hp, bigSep_empty]
    iintro ⟨-, -, Hat⟩
    isplitl; · iapply (closable_idle m (h hp)) $$ Hat
    iempintro

/-- What device `c` needs to send its sums to device `j`: the two duties it pays, the share of its send buffer, and
    its slot of `j`'s receive buffer. -/
def ready (c j : Dev nD) (f : Vec F S1x512 .f32) : sProp 𝕄 :=
  iprop(dutyTok ER (sendCell c j) 0 j ∗ dutyTok ER (recvCell j c) 0 c ∗ sPts c (shr j) f ∗ slotAny j c)

/-- The transfer of the sums to device `j`, on the device `k` it stands for. -/
theorem send_if {c k j : Dev nD} (hkj : k < j) {P : Prop} [Decidable P] (hP : P ↔ c = k) {n : P → Dev nD} (hn : ∀ h, n h = j)
    {f : Vec F S1x512 .f32} (hf : c = k → f = tot m c)
    {sS sR : DmaSem sig} (hS : sS = sendS j) (hR : sR = recvS k)
    {off : Fin 3 → ℕ} {inb : ∀ a : Fin S3x1x512.rank, off a + S1x1x512.size a ≤ S3x1x512.size a} (hoff : off = slotOff k)
    {w₁ : sM.view.WordExact}
    {w₂ : ((rM.slice (Rect.unit (s := S3x1x512) off S1x1x512.size inb) (fun _ => rfl)).squeeze S1x512 squeezes_S1x1x512_S1x512).view.WordExact}
    {w₃ : ∀ h : P, DmaTarget.Typed .vmem (.dma sR) (.remote (Dev.tc (n h) : Thread nD τ)
      ((rM.slice (Rect.unit (s := S3x1x512) off S1x1x512.size inb) (fun _ => rfl)).squeeze S1x512 squeezes_S1x1x512_S1x512) (.dma sS))}
    (l : List (Dev nD × Dev nD)) {α : Type} {R : Prog (TpuEff nD τ sig (Elt F) Λ₀ .tc) α} {Q : α → sProp 𝕄} :
    iprop(records m K ∗ owing c (owesSends c ((k, j) :: l)) ∗ onlyIf (c = k) (ready c j f))
      ⊢ iprop((iprop(owing c (owesSends c l) ∗ onlyIf (c = k) (cred (tallyAt (sendCell c j) () N))) -∗ runs c R Q)
          -∗ runs c (if h : P then (do
              Prog.lift (.enqueueDma sM (.remote (Dev.tc (n h) : Thread nD τ)
                ((rM.slice (Rect.unit (s := S3x1x512) off S1x1x512.size inb) (fun _ => rfl)).squeeze S1x512 squeezes_S1x1x512_S1x512) (.dma sS))
                (.dma sR) w₁ w₂ (w₃ h))
              R) else R) Q) := by
  subst hS hR hoff
  rw [show owesSends c ((k, j) :: l) = owesSends c l + owedIf (c = k) (tallyAt (recvCell j c) () N) from rfl]
  by_cases h : c = k
  · subst h
    obtain rfl := hf rfl
    rw [dif_pos (hP.mpr rfl)]
    generalize w₃ (hP.mpr rfl) = w₃'
    rw [onlyIf_pos rfl, onlyIf_pos rfl, owedIf_pos rfl]
    revert w₃'
    rw [hn]
    intro w₃'
    simp only [Prog.lift, Prog.bind_op, Prog.bind_ret]
    unfold owing ready slotAny
    iintro ⟨#HR, ⟨%W, HO⟩, HtS, HtR, Hs, %fd, Hd⟩ Hk
    ihave Hr := (record m K c (sendS j)) $$ HR
    rw [csem_send]
    icases Hr with ⟨HIS, HrS⟩
    ihave Hr := (record m K j (recvS c)) $$ HR
    rw [csem_recv]
    icases Hr with ⟨HIR, HrR⟩
    unfold sPts slotPts
    iapply (Rounds.wp_send_pointsTo 𝒱₀ ER (sched m) (c : Thread nD τ) none (κ₁ := K (c, sendS j)) (κ₂ := K (j, recvS c))
      (r₁ := 0) (r₂ := 0) (d₁ := j) (d₂ := c) (fd := fd)
      (by rw [duties_zero, duty_send hkj]; exact Finset.mem_singleton_self _) (by rw [duties_zero, duty_recv hkj]; exact Finset.mem_singleton_self _)
      () () N rfl (by show _ = N; exact amount_send j) (by show _ = N; exact amount_recv c) (owesSends c l) rfl (W := W)
      (by show _ ⊢ payOf m c (.dma (sendS j)) j; rw [pay_send]; exact BI.Entails.refl _)
      (by
        show _ ⊢ payOf m j (.dma (recvS c)) c
        rw [pay_recv]; unfold slotSum slotPts
        iintro H
        iexists (slotM c).view.write (Elt F) fd (sM.view.read (Elt F) (tot m c)) Finset.univ
        isplitr
        · ipureintro; rw [View.read_write_univ]; exact View.read_whole _ _
        · iexact H)) $$ [HIS HIR Hs Hd HO HtS HrS HtR HrR]
    · isplitl [HIS]; · iexact HIS
      isplitl [HIR]; · iexact HIR
      isplitl [Hs]; · iexact Hs
      isplitl [Hd]; · iexact Hd
      isplitl [HO]; · iexact HO
      isplitl [HtS]; · iexact HtS
      isplitl [HrS]; · iexact HrS
      isplitl [HtR]; · iexact HtR
      iexact HrR
    iintro ⟨Hc, HO⟩
    iapply Hk
    isplitl [HO]; · iexists W; iexact HO
    iexact Hc
  · rw [dif_neg fun hp => h (hP.mp hp), owedIf_neg h, add_zero, onlyIf_neg h, onlyIf_neg h]
    iintro ⟨-, HO, -⟩ Hk
    iapply Hk
    isplitl [HO]; · iexact HO
    iempintro

/-- The wait for device `k`'s sums, on the devices after `k`. -/
theorem recv_if {c k : Dev nD} (hk : k ≠ 3) {P : Prop} [Decidable P] (hP : P ↔ k < c) {sR : DmaSem sig} (hR : sR = recvS k)
    {off : Fin 3 → ℕ} {inb : ∀ a : Fin S3x1x512.rank, off a + S1x1x512.size a ≤ S3x1x512.size a} (hoff : off = slotOff k)
    {w₁ : sM.view.WordExact}
    {w₂ : ((rM.slice (Rect.unit (s := S3x1x512) off S1x1x512.size inb) (fun _ => rfl)).squeeze S1x512 squeezes_S1x1x512_S1x512).view.WordExact}
    {α : Type} {R : Prog (TpuEff nD τ sig (Elt F) Λ₀ .tc) α} {Q : α → sProp 𝕄} :
    iprop(records m K ∗ levAts L lv ∗ owing c (owesSends c []) ∗ armed m c (csem (recvS k)))
      ⊢ iprop((iprop(owing c (owesSends c []) ∗ done m c (csem (recvS k))) -∗ runs c R Q)
          -∗ runs c (if h : P then (do
              Prog.lift (.waitDma2 sR sM
                ((rM.slice (Rect.unit (s := S3x1x512) off S1x1x512.size inb) (fun _ => rfl)).squeeze S1x512 squeezes_S1x1x512_S1x512) w₁ w₂)
              R) else R) Q) := by
  subst hR hoff
  iintro ⟨HR, Hlev, HO, Ha⟩ Hk
  ihave Ha' := (onlyIf_split (k < c) _) $$ Ha
  icases Ha' with ⟨Ha, Hn⟩
  iapply (wait_if m K (c := c) (recvS k) hP
    (.waitDma2 (recvS k) sM (slotM k) w₁ w₂)
    (fun _ => rfl) N (fun Q => by rw [csem_recv]; exact wpE_waitDma2_eq 𝒱₀ (c : Thread nD τ) none Set.univ Q)
    (fun h => by rw [csem_recv, duty_recv h, Finset.card_singleton, amount_recv, Nat.one_mul]) waits_free) $$ [HR Hlev HO Ha]
  · isplitl [HR]; · iexact HR
    isplitl [Hlev]; · iexact Hlev
    isplitl [HO]; · iexact HO
    iexact Ha
  iintro ⟨HO, Hd⟩
  iapply Hk
  isplitl [HO]; · iexact HO
  iapply (finish m (c := c) (p := k < c) (fun h => by rw [csem_recv]; exact duty_recv_none hk h))
  isplitl [Hd] <;> iassumption

/-- The wait for the transfer to device `j`, on the device `k` it stands for. -/
theorem sent_if {c k j : Dev nD} (hkj : k < j) {P : Prop} [Decidable P] (hP : P ↔ c = k) {sS : DmaSem sig} (hS : sS = sendS j)
    {off : Fin 3 → ℕ} {inb : ∀ a : Fin S3x1x512.rank, off a + S1x1x512.size a ≤ S3x1x512.size a}
    {w₁ : ((rM.slice (Rect.unit (s := S3x1x512) off S1x1x512.size inb) (fun _ => rfl)).squeeze S1x512 squeezes_S1x1x512_S1x512).view.WordExact}
    {w₂ : sM.view.WordExact}
    {α : Type} {R : Prog (TpuEff nD τ sig (Elt F) Λ₀ .tc) α} {Q : α → sProp 𝕄} :
    iprop(records m K ∗ levAts L lv ∗ owing c (owesSends c []) ∗ onlyIf (c = k) (armed m c (csem (sendS j))))
      ⊢ iprop((iprop(owing c (owesSends c []) ∗ onlyIf (c = k) (done m c (csem (sendS j)))) -∗ runs c R Q)
          -∗ runs c (if h : P then (do
              Prog.lift (.waitDma2 sS
                ((rM.slice (Rect.unit (s := S3x1x512) off S1x1x512.size inb) (fun _ => rfl)).squeeze S1x512 squeezes_S1x1x512_S1x512) sM w₁ w₂)
              R) else R) Q) := by
  subst hS
  exact wait_if m K (c := c) (sendS j) hP
    (.waitDma2 (sendS j) ((rM.slice (Rect.unit (s := S3x1x512) off S1x1x512.size inb) (fun _ => rfl)).squeeze S1x512 squeezes_S1x1x512_S1x512) sM w₁ w₂)
    (fun _ => rfl) N (fun Q => by rw [csem_send]; exact wpE_waitDma2_eq 𝒱₀ (c : Thread nD τ) none Set.univ Q)
    (fun h => by subst h; rw [csem_send, duty_send hkj, Finset.card_singleton, amount_send, Nat.one_mul]) waits_free

end Cert.ScanProof

end
-- ==== Proof.Moves.lean ====
/-
# Loads, stores, the copy of `x`; slots and shares split and joined

The receive buffer is held slot by slot and the send buffer share by share, because slots and shares travel separately.
-/
module

public import proofs.«01_k».proof.Proof.Steps
public import Idealize.ShloMosaic.Lib.Ring
public import Idealize.ShloMosaic.Lib.Ring.Trips

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-! ## Whole buffers loaded and stored -/

/-- The offset of a whole buffer. -/
theorem off_zero : (![0, 0] : Fin 2 → ℕ) = fun _ => 0 := by funext a; fin_cases a <;> rfl

/-- The whole of a block, and of a row. -/
abbrev rV : Rect S512x512 := Rect.unit (s := S512x512) ![0, 0] S512x512.size inb_S512x512_S512x512_0_0
abbrev rS : Rect S1x512 := Rect.unit (s := S1x512) ![0, 0] S1x512.size inb_S1x512_S1x512_0_0

omit [FloatOps F] in
/-- Reading the whole VMEM copy gives its contents. -/
theorem read_v (f : Vec F S512x512 .f32) : (vM : Memref sig .tc .vmem S512x512 .f32).view.readAt (Elt F) rV.toLoadRect f = f :=
  Memref.readAt_unit_zero (Elt F) cc0_scratch0 off_zero _ f
omit [FloatOps F] in
/-- Writing the whole output leaves what was written, -/
theorem write_o (f w : Vec F S512x512 .f32) :
    ((oM : Memref sig .tc .vmem S512x512 .f32).access rV : View sig .tc _ _ _).write (Elt F) f w Finset.univ = w :=
  Memref.write_access_unit_zero_univ (Elt F) cc0_stg0_0 off_zero _ f w
omit [FloatOps F] in
/-- and so does writing the whole send buffer. -/
theorem write_s (f w : Vec F S1x512 .f32) :
    ((sM : Memref sig .tc .vmem S1x512 .f32).access rS : View sig .tc _ _ _).write (Elt F) f w Finset.univ = w :=
  Memref.write_access_unit_zero_univ (Elt F) cc0_scratch1 off_zero _ f w

/-- The output block in its staging buffer. -/
def oPts (c : Dev nD) (f : Vec F S512x512 .f32) : sProp 𝕄 := (oM.view.loc (c : Thread nD τ) ↦[oM.view.set]{fullShare} f)

/-- Loading the whole of the VMEM copy of `x`. -/
theorem load_v (c : Dev nD) (f : Vec F S512x512 .f32) {hl} {Q : Vec F S512x512 .f32 → sProp 𝕄} :
    vPts c f ⊢ iprop((vPts c f -∗ Q f)
      -∗ runs c (Prog.lift (.load vM rV.toLoadRect hl)) Q) := by
  unfold vPts
  iintro H Hk
  simp only [Prog.lift]
  iapply (wp_load 𝒱₀ (c : Thread nD τ) none Set.univ (m := vM) (View.setOn_subset_set _ _)) $$ H
  iintro H
  iapply (runs_ret c _ Q)
  rw [read_v]
  iapply Hk; iexact H

/-- Storing the whole output block; the kernel loads what was there before, and ignores it. -/
theorem store_o (c : Dev nD) (f v : Vec F S512x512 .f32) {hl hx hm} {α : Type} {k : Prog (TpuEff nD τ sig (Elt F) Λ₀ .tc) α} {Q : α → sProp 𝕄} :
    oPts c f ⊢ iprop((oPts c v -∗ runs c k Q)
      -∗ runs c (do
          let _ ← Prog.lift (.load oM rV.toLoadRect hl)
          Prog.lift (.store oM rV v Finset.univ hx hm)
          k) Q) := by
  unfold oPts
  iintro H Hk
  simp only [Prog.lift, Prog.bind_op, Prog.bind_ret]
  iapply (wp_load 𝒱₀ (c : Thread nD τ) none Set.univ (m := oM) (View.setOn_subset_set _ _)) $$ H
  iintro H
  iapply (wp_store 𝒱₀ (c : Thread nD τ) none Set.univ (m := oM) (r := rV) (Mk := Finset.univ) (S := oM.view.set) (f := f) (by rw [View.set_whole]; exact Finset.subset_univ _)) $$ H
  iintro H
  iapply Hk
  rw [write_o]
  iexact H

/-- The column sums computed and stored, on every device but the last. -/
theorem store_if {c : Dev nD} {P : Prop} [Decidable P] (hP : P ↔ c < 3) {f : Vec F S1x512 .f32} {hl hl' hx hm}
    {α : Type} {R : Prog (TpuEff nD τ sig (Elt F) Λ₀ .tc) α} {Q : α → sProp 𝕄} :
    iprop(vPts c (xin m c) ∗ sPts c fullShare f)
      ⊢ iprop((iprop(vPts c (xin m c) ∗ ∃ g, ⌜c < 3 → g = tot m c⌝ ∗ sPts c fullShare g) -∗ runs c R Q)
        -∗ runs c (if h : P then (do
            let v ← Prog.lift (.load vM rV.toLoadRect hl)
            let _ ← Prog.lift (.load sM rS.toLoadRect hl')
            Prog.lift (.store sM rS (k0_pay1 v) Finset.univ hx hm)
            R) else R) Q) := by
  by_cases h : c < 3
  · rw [dif_pos (hP.mpr h)]
    unfold vPts sPts
    iintro ⟨Hv, Hs⟩ Hk
    simp only [Prog.lift, Prog.bind_op, Prog.bind_ret]
    iapply (wp_load 𝒱₀ (c : Thread nD τ) none Set.univ (m := vM) (View.setOn_subset_set _ _)) $$ Hv
    iintro Hv
    rw [read_v]
    iapply (wp_load 𝒱₀ (c : Thread nD τ) none Set.univ (m := sM) (View.setOn_subset_set _ _)) $$ Hs
    iintro Hs
    iapply (wp_store 𝒱₀ (c : Thread nD τ) none Set.univ (m := sM) (r := rS) (Mk := Finset.univ) (S := sM.view.set) (f := f) (by rw [View.set_whole]; exact Finset.subset_univ _)) $$ Hs
    iintro Hs
    iapply Hk
    isplitl [Hv]; · iexact Hv
    iexists tot m c
    isplitr; · ipureintro; exact fun _ => rfl
    rw [write_s]
    iexact Hs
  · rw [dif_neg fun hp => h (hP.mp hp)]
    iintro ⟨Hv, Hs⟩ Hk
    iapply Hk
    isplitl [Hv]; · iexact Hv
    iexists f
    isplitr; · ipureintro; exact fun hc => absurd hc h
    iexact Hs

/-! ## The copy of `x` -/

/-- The copy of `x` is started: both buffers go into it, and its semaphore can be waited for. -/
theorem copy_in (c : Dev nD) {f : Vec F S512x512 .f32} {w₁ w₂ w₃} {Q : PUnit → sProp 𝕄} :
    iprop(records m K ∗ xPts m c ∗ vPts c f ∗ dutyTok ER (inCell c) 0 0 ∗ atPos ER (inCell c) 0 ∅ 0)
      ⊢ iprop((armed m c (csem 1) -∗ Q ⟨⟩) -∗ runs c (Prog.lift (.enqueueDma xM (.here vM) (.dma inS) w₁ w₂ w₃)) Q) := by
  unfold xPts vPts
  iintro ⟨HR, Hx, Hv, Ht, Hat⟩ Hk
  ihave Hr := (record m K c 1) $$ HR
  icases Hr with ⟨HI, Hr⟩
  simp only [Prog.lift]
  iapply (Rounds.wp_copy_pointsTo 𝒱₀ ER (sched m) (c : Thread nD τ) none (κ := K (c, 1)) (r := 0) (d := 0) (fd := f)
    (by rw [duties_zero, duty_in]; exact Finset.mem_singleton_self _) () NX rfl (by show _ = NX; exact amount_in)
    (by
      show _ ⊢ payOf m c (.dma inS) 0
      rw [pay_in]; unfold inPay vPts xPts
      rw [View.write_whole_univ]; exact BI.Entails.refl _)) $$ [HI Hx Hv Ht Hr]
  · isplitl [HI]; · iexact HI
    isplitl [Hx]; · iexact Hx
    isplitl [Hv]; · iexact Hv
    isplitl [Ht]; · iexact Ht
    iexact Hr
  iintro Hc
  iapply (runs_ret c _ Q)
  iapply Hk
  unfold armed
  rw [expect_eq, csem_in, duty_in, Finset.card_singleton, amount_in, Nat.one_mul]
  isplitl [Hc] <;> iassumption

/-! ## The slots of the receive buffer -/

/-- What loading a slot gives: the row it holds, with a leading axis of one. -/
def row (t : Vec F S1x512 .f32) : Vec F S1x1x512 .f32 := fun j => t ((Shape.reshapeEquiv squeezes_S1x1x512_S1x512.numel_eq).symm j)

/-- Slot `k` of device `c`: the column sums of `k` if `k` comes before `c`, and otherwise anything. -/
def slotNow (c k : Dev nD) : sProp 𝕄 := iprop(∃ f, ⌜k < c → (slotM k).view.read (Elt F) f = tot m k⌝ ∗ slotPts c k f)

/-- A slot's elements are those of its rectangle. -/
theorem slot_set (k : Dev nD) : (slotM k).view.set = (slotR k).set := by
  show ((rM.view.slice (slotR k)).reshape S1x512 _).set = _
  rw [View.set_reshape, View.set_slice_whole]

/-- Loading slot `k`: for an earlier device it gives that device's sums. -/
theorem load_slot (c k : Dev nD) {off : Fin 3 → ℕ} {inb : ∀ a : Fin S3x1x512.rank, off a + S1x1x512.size a ≤ S3x1x512.size a} (hoff : off = slotOff k)
    {hl} {Q : Vec F S1x1x512 .f32 → sProp 𝕄} :
    slotNow m c k ⊢ iprop((∀ r, iprop(⌜k < c → r = row (tot m k)⌝ ∗ slotAny c k -∗ Q r))
      -∗ runs c (Prog.lift (.load rM (Rect.unit (s := S3x1x512) off S1x1x512.size inb).toLoadRect hl)) Q) := by
  subst hoff
  unfold slotNow slotAny slotPts
  iintro ⟨%f, %hf, H⟩ Hk
  simp only [Prog.lift]
  iapply (wp_load 𝒱₀ (c : Thread nD τ) none Set.univ (m := rM) (S := (slotM k).view.set) (by
    rw [slot_set]
    intro i hi
    obtain ⟨x, hx, rfl⟩ := Finset.mem_map.mp hi
    exact hx)) $$ H
  iintro H
  iapply (runs_ret c _ Q)
  iapply Hk $$ %_
  isplitr
  · ipureintro; intro hk
    rw [← hf hk]
    funext j
    show _ = (rM.view.slice (slotR k)).read (Elt F) f (Shape.reshapeEquiv _ ((Shape.reshapeEquiv _).symm j))
    rw [Equiv.apply_symm_apply]; rfl
  · iexists f; iexact H

/-- After the wait for `k`'s sums, or without one, the slot is in either case as stated. -/
theorem slot_back {c k : Dev nD} (hk : k ≠ 3) :
    iprop(bigSep (dutyOf c (csem (recvS k))) (payOf m c (csem (recvS k))) ∗ onlyIf (¬ k < c) (slotAny c k)) ⊢ slotNow m c k := by
  rw [csem_recv]
  by_cases h : k < c
  · rw [duty_recv h, bigSep_singleton, pay_recv, onlyIf_neg fun hn => hn h]
    unfold slotSum slotNow
    iintro ⟨⟨%f, %hf, H⟩, -⟩
    iexists f; isplitr; · ipureintro; exact fun _ => hf
    iexact H
  · rw [duty_recv_none hk h, bigSep_empty, onlyIf_pos h]
    unfold slotAny slotNow
    iintro ⟨-, %f, H⟩
    iexists f; isplitr; · ipureintro; exact fun hc => absurd hc h
    iexact H

/-- After the wait for the transfer to `j`, or without one, the share it read is back. -/
theorem share_back {c j : Dev nD} (hj : j ≠ 0) {f : Vec F S1x512 .f32} (hf : c < j → f = tot m c) :
    iprop(bigSep (dutyOf c (csem (sendS j))) (payOf m c (csem (sendS j))) ∗ onlyIf (¬ c < j) (sPts c (shr j) f)) ⊢ sPts c (shr j) f := by
  rw [csem_send]
  by_cases h : c < j
  · rw [duty_send h, bigSep_singleton, pay_send, onlyIf_neg fun hn => hn h, ← hf h]
    iintro ⟨H, -⟩; iexact H
  · rw [duty_send_none hj h, bigSep_empty, onlyIf_pos h]
    iintro ⟨-, H⟩; iexact H

omit [FloatOps F] in
/-- A product over three, written out, -/
theorem over_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- and one over four. -/
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The later devices' slots that come with the barrier's round. -/
theorem slots_got (c : Dev nD) :
    bigSep (dutyOf c (csem 0)) (payOf m c (csem 0))
      ⊢ iprop(onlyIf (c < 1) (slotAny (1 : Dev nD) c) ∗ onlyIf (c < 2) (slotAny (2 : Dev nD) c) ∗ onlyIf (c < 3) (slotAny (3 : Dev nD) c)) := by
  rw [show bigSep (dutyOf c (csem 0)) (payOf m c (csem 0)) = bigSep (Finset.univ.filter (c < ·)) (fun d => slotAny d c) from rfl,
    bigSep_filter, over_four]
  unfold onlyIf
  iintro ⟨-, H1, H2, H3⟩
  isplitl [H1]; · iexact H1
  isplitl [H2]; · iexact H2
  iexact H3

omit [FloatOps F] in
/-- The send buffer is its three shares. -/
theorem shares (c : Dev nD) (f : Vec F S1x512 .f32) :
    sPts c fullShare f ⊣⊢ iprop(sPts c (shr 1) f ∗ sPts c (shr 2) f ∗ sPts c (shr 3) f) := by
  unfold sPts
  rw [show shr 1 = Ring.shares3 fullShare 0 from rfl, show shr 2 = Ring.shares3 fullShare 1 from rfl, show shr 3 = Ring.shares3 fullShare 2 from rfl]
  exact Ring.pointsTo_thirds _ _

/-- The three slots that exist. -/
abbrev slotB (c : Dev nD) (b : Fin 3) : Finset (Idx (rM.view.loc (c : Thread nD τ))) := (slotR ⟨b.val, by have := b.isLt; show _ < 4; omega⟩).set
/-- The slots lie one after the other, -/
theorem slotOff_lead (b : Fin 3) : slotOff ⟨b.val, by have := b.isLt; show _ < 4; omega⟩ 0 = 1 * b.val := by revert b; decide
/-- have no element in common -/
theorem slotB_disjoint (c : Dev nD) (b b' : Fin 3) (h : b ≠ b') : Disjoint (slotB c b) (slotB c b') :=
  Ring.lead_disjoint (s := S3x1x512) 0 1 (fun b : Fin 3 => slotOff ⟨b.val, by have := b.isLt; show _ < 4; omega⟩) S1x1x512.size
    (fun b => slotOff_inb _) slotOff_lead rfl b b' h
/-- and make up the receive buffer. -/
theorem slotB_cover (c : Dev nD) : Finset.univ.biUnion (slotB c) = Finset.univ :=
  Ring.lead_cover (s := S3x1x512) 0 1 (fun b : Fin 3 => slotOff ⟨b.val, by have := b.isLt; show _ < 4; omega⟩) S1x1x512.size
    (fun b => slotOff_inb _) slotOff_lead (by decide) rfl (by decide) rfl

/-- The receive buffer is its three slots. -/
def rPts (c : Dev nD) (f : Vec F S3x1x512 .f32) : sProp 𝕄 := (rM.view.loc (c : Thread nD τ) ↦[rM.view.set]{fullShare} f)

omit [FloatOps F] in
/-- Owning a slot is owning the elements of its rectangle. -/
theorem slotPts_eq (c k : Dev nD) (f : Vec F S3x1x512 .f32) :
    slotPts c k f = (rM.view.loc (c : Thread nD τ) ↦[(slotR k).set]{fullShare} f : sProp 𝕄) := by
  unfold slotPts; rw [slot_set]

omit [FloatOps F] in
/-- The receive buffer splits into its three slots, -/
theorem slots_split (c : Dev nD) (f : Vec F S3x1x512 .f32) :
    rPts c f ⊢ iprop(slotAny c 0 ∗ slotAny c 1 ∗ slotAny c 2) := by
  unfold rPts
  rw [View.set_whole]
  refine (Entails.of_eq ((Ring.pointsTo_blocks (slotB c) (slotB_disjoint c) (slotB_cover c) f).trans
    (over_three _))).trans ?_
  unfold slotAny
  simp only [slotPts_eq]
  iintro ⟨H0, H1, H2⟩
  isplitl [H0]; · iexists f; iexact H0
  isplitl [H1]; · iexists f; iexact H1
  iexists f; iexact H2

omit [FloatOps F] in
/-- and they join to it again. -/
theorem slots_join (c : Dev nD) : iprop(slotAny c 0 ∗ slotAny c 1 ∗ slotAny c 2) ⊢ (iprop(∃ f, rPts c f) : sProp 𝕄) := by
  unfold rPts
  rw [View.set_whole]
  unfold slotAny
  simp only [slotPts_eq]
  iintro ⟨⟨%f, H0⟩, H1, H2⟩
  iapply (Ring.pointsTo_blocks_join_exists (slotB c) (slotB_disjoint c) (slotB_cover c) f)
  rw [over_three]
  isplitl [H0]; · iexists f; iexact H0
  isplitl [H1]; · iexact H1
  iexact H2

/-! ## Putting statements together -/

/-- A program followed by another is run one after the other. -/
theorem runs_bind {α β : Type} (c : Dev nD) (p : Prog (TpuEff nD τ sig (Elt F) Λ₀ .tc) α) (k : α → Prog (TpuEff nD τ sig (Elt F) Λ₀ .tc) β)
    (Q : β → sProp 𝕄) : runs c p (fun a => runs c (k a) Q) ⊢ runs c (p >>= k) Q := by
  show wp frame (wpE (defs₀ (F := F)) 𝒱₀ (c : Thread nD τ) none) Set.univ p
    (fun a => wp frame (wpE (defs₀ (F := F)) 𝒱₀ (c : Thread nD τ) none) Set.univ (k a) Q) ⊢ wp frame (wpE (defs₀ (F := F)) 𝒱₀ (c : Thread nD τ) none) Set.univ (p >>= k) Q
  rw [wp_bind]

/-- The device asks its number. -/
theorem device_id (c : Dev nD) (Q : Dev nD → sProp 𝕄) : Q c ⊢ runs (F := F) c (Prog.lift .deviceId) Q := by
  show Q c ⊢ wp frame (wpE (defs₀ (F := F)) 𝒱₀ (c : Thread nD τ) none) Set.univ (Prog.lift .deviceId) Q
  simp only [Prog.lift, wp_deviceId]
  exact runs_ret c c Q

end Cert.ScanProof

end
-- ==== Proof.Body.lean ====
/-
# The kernel's body, run once on any device

The body is printed in three parts and a tail; each is run here to what it leaves, in the order of its statements.
-/
module

public import proofs.«01_k».proof.Proof.Moves

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-! ## The conditions, read as conditions on the device's number -/

/-- The device's number as the kernel computes it. -/
abbrev posWord (c : Dev nD) : BitVec 32 := Scalar.remsi (Scalar.divsi (Dev.word c) 1#32) 4#32

/-- The kernel's three kinds of test on that number, each with the way back from a word to a bit. -/
abbrev testEq (c : Dev nD) (k : BitVec 32) : BitVec 1 := Scalar.cmpi .ne (Scalar.extui (Scalar.cmpi .eq (posWord c) k : BitVec 1) : BitVec 32) 0#32
abbrev testLt (c : Dev nD) (k : BitVec 32) : BitVec 1 := Scalar.cmpi .ne (Scalar.extui (Scalar.cmpi .slt (posWord c) k : BitVec 1) : BitVec 32) 0#32
abbrev testGt (c : Dev nD) (k : BitVec 32) : BitVec 1 := Scalar.cmpi .ne (Scalar.extui (Scalar.cmpi .sgt (posWord c) k : BitVec 1) : BitVec 32) 0#32

/-- The printed tests compare the device's number with a constant: for equality, -/
theorem test_eq (c k : Dev nD) : testEq c (Dev.word k) = 1#1 ↔ c = k := by revert c k; decide +kernel
/-- for being smaller, -/
theorem test_lt (c k : Dev nD) : testLt c (Dev.word k) = 1#1 ↔ c < k := by revert c k; decide +kernel
/-- for being larger. -/
theorem test_gt (c k : Dev nD) : testGt c (Dev.word k) = 1#1 ↔ k < c := by revert c k; decide +kernel

/-- Which device each of the six signals runs on. -/
theorem sig_conds (c : Dev nD) :
    (k0_cond1 c = 1#1 ↔ c = 1) ∧ (k0_cond2 c = 1#1 ↔ c = 2) ∧ (k0_cond3 c = 1#1 ↔ c = 3)
      ∧ (k0_cond4 c = 1#1 ↔ c = 2) ∧ (k0_cond5 c = 1#1 ↔ c = 3) ∧ (k0_cond6 c = 1#1 ↔ c = 3) := by revert c; decide +kernel
/-- Which device each of the six sends runs on. -/
theorem send_conds (c : Dev nD) :
    (k0_cond11 c = 1#1 ↔ c = 0) ∧ (k0_cond12 c = 1#1 ↔ c = 0) ∧ (k0_cond13 c = 1#1 ↔ c = 0)
      ∧ (k0_cond14 c = 1#1 ↔ c = 1) ∧ (k0_cond15 c = 1#1 ↔ c = 1) ∧ (k0_cond16 c = 1#1 ↔ c = 2) := by revert c; decide +kernel

/-! ## Part one: the copy of `x`, the signals, the column sums, the first device's wait for the barrier -/

/-- What the signal to `k`'s barrier takes on device `j`. -/
abbrev sigPay (c k j : Dev nD) : sProp 𝕄 := onlyIf (c = j) iprop(dutyTok ER (barCell k) 0 c ∗ slotAny c k)

/-- Part one of the body: the copy of `x` is started and waited for, the earlier devices are told, and the sums are stored. -/
theorem part_one (c : Dev nD) {f : Vec F S512x512 .f32} {g : Vec F S1x512 .f32} (Q : (Σ' (_ : Dev nD) (_ : BitVec 32) (_ : Sems sig S_), BitVec 32) → sProp 𝕄) :
    iprop(records m K ∗ levAts L lv ∗ owing c (O₀ c) ∗ (xPts m c ∗ vPts c f ∗ dutyTok ER (inCell c) 0 0 ∗ atPos ER (inCell c) 0 ∅ 0)
        ∗ (sigPay c 0 1 ∗ sigPay c 0 2 ∗ sigPay c 0 3 ∗ sigPay c 1 2 ∗ sigPay c 1 3 ∗ sigPay c 2 3)
        ∗ sPts c fullShare g ∗ onlyIf (c = 0) (armed m c (csem 0)))
      ⊢ iprop((iprop(owing c (owesSends c pairs) ∗ closable m c (csem 1) ∗ xPts m c ∗ vPts c (xin m c)
            ∗ (∃ g, ⌜c < 3 → g = tot m c⌝ ∗ sPts c fullShare g) ∗ onlyIf (c = 0) (done m c (csem 0)))
          -∗ Q ⟨c, posWord c, SemArray.scalar (sig.barrier 0 rfl), Scalar.extui (Scalar.cmpi .eq (posWord c) 1#32)⟩)
        -∗ runs c (k0_part1 xM (Memref.isWhole_whole _) oM (Memref.isWhole_whole _) vM (Memref.isWhole_whole _) sM (Memref.isWhole_whole _)
            rM (Memref.isWhole_whole _) cc0_scratch3 cc0_scratch4 cc0_scratch5) Q) := by
  rw [k0_part1_eq_skeleton]; unfold k0_part1_skel
  obtain ⟨h1, h2, h3, h4, h5, h6⟩ := sig_conds c
  iintro ⟨#HR, #Hlev, HO, ⟨Hx, Hv, HtI, HaI⟩, ⟨H01, H02, H03, H12, H13, H23⟩, Hs, HB⟩ Hk
  iapply runs_bind
  iapply device_id
  iapply runs_bind
  iapply (copy_in m K c) $$ [Hx Hv HtI HaI]
  · isplitr; · iexact HR
    isplitl [Hx]; · iexact Hx
    isplitl [Hv]; · iexact Hv
    isplitl [HtI]; · iexact HtI
    iexact HaI
  iintro HI
  iapply (signal_if m K (c := c) (k := 0) (j := 1) (by decide) h1 (fun h => Fin.ext k0_dev1_eq) [(0, 2), (0, 3), (1, 2), (1, 3), (2, 3)]) $$ [HO H01]
  · isplitr; · iexact HR
    isplitl [HO]; · iexact HO
    iexact H01
  iintro HO
  iapply (signal_if m K (c := c) (k := 0) (j := 2) (by decide) h2 (fun h => Fin.ext k0_dev2_eq) [(0, 3), (1, 2), (1, 3), (2, 3)]) $$ [HO H02]
  · isplitr; · iexact HR
    isplitl [HO]; · iexact HO
    iexact H02
  iintro HO
  iapply (signal_if m K (c := c) (k := 0) (j := 3) (by decide) h3 (fun h => Fin.ext k0_dev3_eq) [(1, 2), (1, 3), (2, 3)]) $$ [HO H03]
  · isplitr; · iexact HR
    isplitl [HO]; · iexact HO
    iexact H03
  iintro HO
  iapply (signal_if m K (c := c) (k := 1) (j := 2) (by decide) h4 (fun h => Fin.ext k0_dev4_eq) [(1, 3), (2, 3)]) $$ [HO H12]
  · isplitr; · iexact HR
    isplitl [HO]; · iexact HO
    iexact H12
  iintro HO
  iapply (signal_if m K (c := c) (k := 1) (j := 3) (by decide) h5 (fun h => Fin.ext k0_dev5_eq) [(2, 3)]) $$ [HO H13]
  · isplitr; · iexact HR
    isplitl [HO]; · iexact HO
    iexact H13
  iintro HO
  iapply (signal_if m K (c := c) (k := 2) (j := 3) (by decide) h6 (fun h => Fin.ext k0_dev6_eq) []) $$ [HO H23]
  · isplitr; · iexact HR
    isplitl [HO]; · iexact HO
    iexact H23
  iintro HO
  -- everything signalled: the copy of `x` has arrived
  iapply (wait_all m K c 1 (O := owesSends c pairs) (.waitDma2 inS xM vM _ _) NX (wpE_waitDma2_eq 𝒱₀ (c : Thread nD τ) none Set.univ)
    (by rw [csem_in, duty_in, Finset.card_singleton, amount_in, Nat.one_mul]) (waits_low (by decide) pairs)) $$ [HO HI]
  · isplitr; · iexact HR
    isplitr; · iexact Hlev
    isplitl [HO]; · iexact HO
    iexact HI
  unfold done
  rw [csem_in, duty_in, bigSep_singleton, pay_in]
  unfold inPay
  iintro ⟨HO, HI, Hv, Hx⟩
  iapply (store_if m (c := c) (test_lt c 3)) $$ [Hv Hs]
  · isplitl [Hv]; · iexact Hv
    iexact Hs
  iintro ⟨Hv, Hs⟩
  iapply (wait_if m K (c := c) 0 (test_eq c 0) (.semWait barS ((3 : ℕ) : ℤ)) (fun _ => rfl) 3 (wpE_semWait_eq 𝒱₀ (c : Thread nD τ) none Set.univ)
    (by rintro rfl; decide) (waits_low (by decide) pairs)) $$ [HO HB]
  · isplitr; · iexact HR
    isplitr; · iexact Hlev
    isplitl [HO]; · iexact HO
    iexact HB
  iintro ⟨HO, HB⟩
  simp only [Prog.pure_eq_ret]
  iapply (runs_ret c)
  iapply Hk
  isplitl [HO]; · iexact HO
  isplitl [HI]; · iexact HI
  isplitl [Hx]; · iexact Hx
  isplitl [Hv]; · iexact Hv
  isplitl [Hs]; · iexact Hs
  iexact HB

end Cert.ScanProof

end
-- ==== Proof.Transfers.lean ====
/-
# Part two of the kernel's body

The waits for the barrier on devices 1 and 2, the transfers of the column sums to the later devices, and the prefix sums of
the device's own rows.
-/
module

public import proofs.«01_k».proof.Proof.Body

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-! ## Part two: the other waits for the barrier, the transfers, the prefix sums of `x` -/

/-- Nobody signals the last device's barrier. -/
theorem bar_last (c : Dev nD) (h : ¬ c < 3) : dutyOf c (csem 0) = ∅ := by revert c; decide

/-- What device `c` holds for device `j`: the two duties of a transfer, and the share of the send buffer. -/
def sendRes (c j : Dev nD) (f : Vec F S1x512 .f32) : sProp 𝕄 :=
  iprop(dutyTok ER (sendCell c j) 0 j ∗ dutyTok ER (recvCell j c) 0 c ∗ sPts c (shr j) f)

/-- With the slot it is ready on the devices before `j`; on the others only the share is kept. -/
theorem ready_or (c j : Dev nD) (f : Vec F S1x512 .f32) :
    iprop(sendRes c j f ∗ onlyIf (c < j) (slotAny j c)) ⊢ iprop(onlyIf (c < j) (ready c j f) ∗ onlyIf (¬ c < j) (sPts c (shr j) f)) := by
  unfold sendRes ready
  by_cases h : c < j
  · rw [onlyIf_pos h, onlyIf_pos h, onlyIf_neg fun hn => hn h]
    iintro ⟨⟨H1, H2, H3⟩, H4⟩
    isplitl
    · isplitl [H1]; · iexact H1
      isplitl [H2]; · iexact H2
      isplitl [H3]; · iexact H3
      iexact H4
    · iempintro
  · rw [onlyIf_neg h, onlyIf_neg h, onlyIf_pos h]
    iintro ⟨⟨-, -, H3⟩, -⟩
    isplitr; · iempintro
    iexact H3

/-- A transfer to `j` under way, on the devices before `j`. -/
def sent (c j : Dev nD) (f : Vec F S1x512 .f32) : sProp 𝕄 :=
  iprop(onlyIf (c < j) (cred (tallyAt (sendCell c j) () N)) ∗ onlyIf (¬ c < j) (sPts c (shr j) f))

/-- Part two of the body: the later devices are waited for, the sums are sent, and the block's own running sum is computed. -/
theorem part_two (c : Dev nD) {f : Vec F S1x512 .f32} (hf : c < 3 → f = tot m c) (Q : (Σ' (_ : FVec F S512x512 .f32), BitVec 1) → sProp 𝕄) :
    iprop(records m K ∗ levAts L lv ∗ owing c (owesSends c pairs)
        ∗ (onlyIf (c = 0) (done m c (csem 0)) ∗ onlyIf (c = 1) (armed m c (csem 0)) ∗ onlyIf (c = 2) (armed m c (csem 0))
          ∗ onlyIf (¬ c < 3) (armed m c (csem 0)))
        ∗ (sendRes c 1 f ∗ sendRes c 2 f ∗ sendRes c 3 f) ∗ vPts c (xin m c))
      ⊢ iprop((iprop(owing c (owesSends c []) ∗ closable m c (csem 0) ∗ (sent c 1 f ∗ sent c 2 f ∗ sent c 3 f) ∗ vPts c (xin m c))
          -∗ Q ⟨k0_pay2 (xin m c), testGt c 0#32⟩)
        -∗ runs c (k0_part2 xM (Memref.isWhole_whole _) oM (Memref.isWhole_whole _) vM (Memref.isWhole_whole _) sM (Memref.isWhole_whole _)
            rM (Memref.isWhole_whole _) cc0_scratch3 cc0_scratch4 cc0_scratch5 c (posWord c) (SemArray.scalar (sig.barrier 0 rfl))
            (Scalar.extui (Scalar.cmpi .eq (posWord c) 1#32))) Q) := by
  rw [k0_part2_eq_skeleton]; unfold k0_part2_skel
  obtain ⟨h1, h2, h3, h4, h5, h6⟩ := send_conds c
  have hf0 : c = 0 → f = tot m c := fun h => hf (by subst h; decide)
  have hf1 : c = 1 → f = tot m c := fun h => hf (by subst h; decide)
  have hf2 : c = 2 → f = tot m c := fun h => hf (by subst h; decide)
  iintro ⟨#HR, #Hlev, HO, ⟨HB0, HB1, HB2, HB3⟩, ⟨HS1, HS2, HS3⟩, Hv⟩ Hk
  iapply (wait_if m K (c := c) 0 (test_eq c 1) (.semWait barS ((2 : ℕ) : ℤ)) (fun _ => rfl) 2 (wpE_semWait_eq 𝒱₀ (c : Thread nD τ) none Set.univ)
    (by rintro rfl; decide) (waits_low (by decide) pairs)) $$ [HO HB1]
  · isplitr; · iexact HR
    isplitr; · iexact Hlev
    isplitl [HO]; · iexact HO
    iexact HB1
  iintro ⟨HO, HB1⟩
  iapply (wait_if m K (c := c) 0 (test_eq c 2) (.semWait barS ((1 : ℕ) : ℤ)) (fun _ => rfl) 1 (wpE_semWait_eq 𝒱₀ (c : Thread nD τ) none Set.univ)
    (by rintro rfl; decide) (waits_low (by decide) pairs)) $$ [HO HB2]
  · isplitr; · iexact HR
    isplitr; · iexact Hlev
    isplitl [HO]; · iexact HO
    iexact HB2
  iintro ⟨HO, HB2⟩
  -- whichever device this is, its barrier's round is over, and the later devices' slots are here
  ihave Hd := (before_three c (done m c (csem 0))).2 $$ [HB0 HB1 HB2]
  · isplitl [HB0 HB1]
    · iapply (before_two c (done m c (csem 0))).2
      isplitl [HB0] <;> iassumption
    · iexact HB2
  ihave Hd' := (finish m (c := c) (s := csem 0) (p := c < 3) (bar_last c)) $$ [Hd HB3]
  · isplitl [Hd] <;> iassumption
  unfold done
  icases Hd' with ⟨HB, Hslots⟩
  ihave Hs := (slots_got m c) $$ Hslots
  icases Hs with ⟨Hs1, Hs2, Hs3⟩
  ihave H1 := (ready_or c 1 f) $$ [HS1 Hs1]
  · isplitl [HS1] <;> iassumption
  icases H1 with ⟨H1, Hn1⟩
  ihave H2 := (ready_or c 2 f) $$ [HS2 Hs2]
  · isplitl [HS2] <;> iassumption
  icases H2 with ⟨H2, Hn2⟩
  ihave H3 := (ready_or c 3 f) $$ [HS3 Hs3]
  · isplitl [HS3] <;> iassumption
  icases H3 with ⟨H3, Hn3⟩
  ihave H01 := (before_one c _).1 $$ H1
  ihave H2' := (before_two c _).1 $$ H2
  icases H2' with ⟨H02, H12⟩
  ihave H3' := (before_three c _).1 $$ H3
  icases H3' with ⟨H3', H23⟩
  ihave H3'' := (before_two c _).1 $$ H3'
  icases H3'' with ⟨H03, H13⟩
  iapply (send_if m K (w₁ := (Memref.isWhole_whole _).wordExact) (w₂ := (View.wordExact_bits rfl).reshape _ _) (w₃ := fun _ => ⟨⟨rfl, Or.inl rfl⟩, trivial⟩)
    (c := c) (k := 0) (j := 1) (by decide) h1 (fun h => Fin.ext k0_dev7_eq) hf0 rfl rfl rfl [(0, 2), (0, 3), (1, 2), (1, 3), (2, 3)]) $$ [HO H01]
  · isplitr; · iexact HR
    isplitl [HO]; · iexact HO
    iexact H01
  iintro ⟨HO, H01⟩
  iapply (send_if m K (w₁ := (Memref.isWhole_whole _).wordExact) (w₂ := (View.wordExact_bits rfl).reshape _ _) (w₃ := fun _ => ⟨⟨rfl, Or.inl rfl⟩, trivial⟩)
    (c := c) (k := 0) (j := 2) (by decide) h2 (fun h => Fin.ext k0_dev8_eq) hf0 rfl rfl rfl [(0, 3), (1, 2), (1, 3), (2, 3)]) $$ [HO H02]
  · isplitr; · iexact HR
    isplitl [HO]; · iexact HO
    iexact H02
  iintro ⟨HO, H02⟩
  iapply (send_if m K (w₁ := (Memref.isWhole_whole _).wordExact) (w₂ := (View.wordExact_bits rfl).reshape _ _) (w₃ := fun _ => ⟨⟨rfl, Or.inl rfl⟩, trivial⟩)
    (c := c) (k := 0) (j := 3) (by decide) h3 (fun h => Fin.ext k0_dev9_eq) hf0 rfl rfl rfl [(1, 2), (1, 3), (2, 3)]) $$ [HO H03]
  · isplitr; · iexact HR
    isplitl [HO]; · iexact HO
    iexact H03
  iintro ⟨HO, H03⟩
  iapply (send_if m K (w₁ := (Memref.isWhole_whole _).wordExact) (w₂ := (View.wordExact_bits rfl).reshape _ _) (w₃ := fun _ => ⟨⟨rfl, Or.inl rfl⟩, trivial⟩)
    (c := c) (k := 1) (j := 2) (by decide) h4 (fun h => Fin.ext k0_dev10_eq) hf1 rfl rfl rfl [(1, 3), (2, 3)]) $$ [HO H12]
  · isplitr; · iexact HR
    isplitl [HO]; · iexact HO
    iexact H12
  iintro ⟨HO, H12⟩
  iapply (send_if m K (w₁ := (Memref.isWhole_whole _).wordExact) (w₂ := (View.wordExact_bits rfl).reshape _ _) (w₃ := fun _ => ⟨⟨rfl, Or.inl rfl⟩, trivial⟩)
    (c := c) (k := 1) (j := 3) (by decide) h5 (fun h => Fin.ext k0_dev11_eq) hf1 rfl rfl rfl [(2, 3)]) $$ [HO H13]
  · isplitr; · iexact HR
    isplitl [HO]; · iexact HO
    iexact H13
  iintro ⟨HO, H13⟩
  iapply (send_if m K (w₁ := (Memref.isWhole_whole _).wordExact) (w₂ := (View.wordExact_bits rfl).reshape _ _) (w₃ := fun _ => ⟨⟨rfl, Or.inl rfl⟩, trivial⟩)
    (c := c) (k := 2) (j := 3) (by decide) h6 (fun h => Fin.ext k0_dev12_eq) hf2 rfl rfl rfl []) $$ [HO H23]
  · isplitr; · iexact HR
    isplitl [HO]; · iexact HO
    iexact H23
  iintro ⟨HO, H23⟩
  iapply runs_bind
  iapply (load_v c (xin m c)) $$ Hv
  iintro Hv
  simp only [Prog.pure_eq_ret]
  iapply (runs_ret c)
  iapply Hk
  isplitl [HO]; · iexact HO
  isplitl [HB]; · iexact HB
  isplitl [H01 H02 H12 H03 H13 H23 Hn1 Hn2 Hn3]
  · unfold sent
    isplitl [H01 Hn1]
    · isplitr [Hn1]; · iapply (before_one c _).2 $$ H01
      iexact Hn1
    isplitl [H02 H12 Hn2]
    · isplitr [Hn2]
      · iapply (before_two c _).2
        isplitl [H02] <;> iassumption
      · iexact Hn2
    · isplitr [Hn3]
      · iapply (before_three c _).2
        isplitr [H23]
        · iapply (before_two c _).2
          isplitl [H03] <;> iassumption
        · iexact H23
      · iexact Hn3
  iexact Hv

end Cert.ScanProof

end
-- ==== Proof.Result.lean ====
/-
# Part three of the kernel's body

The waits for the earlier devices' sums, the reads of the slots and the result.
-/
module

public import proofs.«01_k».proof.Proof.Body

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-! ## Part three: the waits for the earlier devices' sums, and the result -/

/-- What device `c` leaves in the output: its own prefix sums, with the column sums of the devices before it added. -/
def outAt (c : Dev nD) : Vec F S512x512 .f32 :=
  k0_pay3 (posWord c) (k0_pay2 (xin m c)) (row (tot m 0)) (row (tot m 1)) (row (tot m 2))

/-- The device's number compared with another. -/
theorem pos_gt (c k : Dev nD) : Scalar.cmpi .sgt (posWord c) (Dev.word k) = 1#1 ↔ k < c := by revert c k; decide +kernel

/-- A slot that is not an earlier device's is not selected. -/
theorem select_slot {c : Dev nD} (k : Dev nD) {w : BitVec 32} (hw : w = Dev.word k) {a a' b : FVec F S512 .f32} (h : k < c → a = a') :
    Scalar.select (Scalar.cmpi .sgt (posWord c) w) a b = Scalar.select (Scalar.cmpi .sgt (posWord c) w) a' b := by
  subst hw
  by_cases hk : k < c
  · rw [h hk]
  · exact (if_neg fun e => hk ((pos_gt c k).mp e)).trans (if_neg fun e => hk ((pos_gt c k).mp e)).symm

/-- The result does not depend on the slots of the devices that are not earlier. -/
theorem out_eq (c : Dev nD) (v : FVec F S512x512 .f32) {r₀ r₁ r₂ s₀ s₁ s₂ : Vec F S1x1x512 .f32}
    (h₀ : 0 < c → r₀ = s₀) (h₁ : 1 < c → r₁ = s₁) (h₂ : 2 < c → r₂ = s₂) :
    k0_pay3 (posWord c) v r₀ r₁ r₂ = k0_pay3 (posWord c) v s₀ s₁ s₂ := by
  unfold k0_pay3
  dsimp only
  rw [select_slot (c := c) 0 (w := 0#32) rfl fun h => congrArg (fun r => shapeCast S512 r shapeCasts_S1x1x512_S512) (h₀ h),
    select_slot (c := c) 1 (w := 1#32) rfl fun h => congrArg (fun r => shapeCast S512 r shapeCasts_S1x1x512_S512) (h₁ h),
    select_slot (c := c) 2 (w := 2#32) rfl fun h => congrArg (fun r => shapeCast S512 r shapeCasts_S1x1x512_S512) (h₂ h)]

/-- Part three of the body: the earlier devices' sums are waited for, the slots are read and the result is stored. -/
theorem part_three (c : Dev nD) {g : Vec F S512x512 .f32} (Q : BitVec 1 → sProp 𝕄) :
    iprop(records m K ∗ levAts L lv ∗ owing c (owesSends c [])
        ∗ (armed m c (csem (recvS 0)) ∗ armed m c (csem (recvS 1)) ∗ armed m c (csem (recvS 2)))
        ∗ (onlyIf (¬ 0 < c) (slotAny c 0) ∗ onlyIf (¬ 1 < c) (slotAny c 1) ∗ onlyIf (¬ 2 < c) (slotAny c 2)) ∗ oPts c g)
      ⊢ iprop((iprop(owing c (owesSends c []) ∗ (closable m c (csem (recvS 0)) ∗ closable m c (csem (recvS 1)) ∗ closable m c (csem (recvS 2)))
            ∗ (slotAny c 0 ∗ slotAny c 1 ∗ slotAny c 2) ∗ oPts c (outAt m c))
          -∗ Q (testEq c 0#32))
        -∗ runs c (k0_part3 xM (Memref.isWhole_whole _) oM (Memref.isWhole_whole _) vM (Memref.isWhole_whole _) sM (Memref.isWhole_whole _)
            rM (Memref.isWhole_whole _) cc0_scratch3 cc0_scratch4 cc0_scratch5 (posWord c) (k0_pay2 (xin m c)) (testGt c 0#32)) Q) := by
  rw [k0_part3_eq_skeleton]; unfold k0_part3_skel
  iintro ⟨#HR, #Hlev, HO, ⟨HA0, HA1, HA2⟩, ⟨HN0, HN1, HN2⟩, Ho⟩ Hk
  iapply (recv_if m K (c := c) (k := 0) (by decide) (test_gt c 0) rfl rfl) $$ [HO HA0]
  · isplitr; · iexact HR
    isplitr; · iexact Hlev
    isplitl [HO]; · iexact HO
    iexact HA0
  unfold done
  iintro ⟨HO, HC0, HA0⟩
  ihave HN0 := (slot_back m (c := c) (k := 0) (by decide)) $$ [HA0 HN0]
  · isplitl [HA0] <;> iassumption
  iapply (recv_if m K (c := c) (k := 1) (by decide) (test_gt c 1) rfl rfl) $$ [HO HA1]
  · isplitr; · iexact HR
    isplitr; · iexact Hlev
    isplitl [HO]; · iexact HO
    iexact HA1
  unfold done
  iintro ⟨HO, HC1, HA1⟩
  ihave HN1 := (slot_back m (c := c) (k := 1) (by decide)) $$ [HA1 HN1]
  · isplitl [HA1] <;> iassumption
  iapply (recv_if m K (c := c) (k := 2) (by decide) (test_gt c 2) rfl rfl) $$ [HO HA2]
  · isplitr; · iexact HR
    isplitr; · iexact Hlev
    isplitl [HO]; · iexact HO
    iexact HA2
  unfold done
  iintro ⟨HO, HC2, HA2⟩
  ihave HN2 := (slot_back m (c := c) (k := 2) (by decide)) $$ [HA2 HN2]
  · isplitl [HA2] <;> iassumption
  iapply runs_bind
  iapply (load_slot m c 0 rfl) $$ HN0
  iintro %r0 ⟨%hr0, HN0⟩
  iapply runs_bind
  iapply (load_slot m c 1 rfl) $$ HN1
  iintro %r1 ⟨%hr1, HN1⟩
  iapply runs_bind
  iapply (load_slot m c 2 rfl) $$ HN2
  iintro %r2 ⟨%hr2, HN2⟩
  iapply (store_o c g) $$ Ho
  rw [out_eq c (k0_pay2 (xin m c)) hr0 hr1 hr2]
  iintro Ho
  simp only [Prog.pure_eq_ret]
  iapply (runs_ret c)
  iapply Hk
  isplitl [HO]; · iexact HO
  isplitl [HC0 HC1 HC2]
  · isplitl [HC0]; · iexact HC0
    isplitl [HC1] <;> iassumption
  isplitl [HN0 HN1 HN2]
  · isplitl [HN0]; · iexact HN0
    isplitl [HN1] <;> iassumption
  unfold outAt
  iexact Ho

end Cert.ScanProof

end
-- ==== Proof.Device.lean ====
/-
# The whole body on one device

The three parts one after the other, and the tail: the waits for the device's own transfers.
-/
module

public import proofs.«01_k».proof.Proof.Transfers
public import proofs.«01_k».proof.Proof.Result

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-! ## What a device holds at the start and at the end -/

/-- The duties device `c` pays. -/
def duties (c : Dev nD) : sProp 𝕄 :=
  iprop((dutyTok ER (barCell 0) 0 c ∗ dutyTok ER (barCell 1) 0 c ∗ dutyTok ER (barCell 2) 0 c) ∗ dutyTok ER (inCell c) 0 0
    ∗ (dutyTok ER (sendCell c 1) 0 1 ∗ dutyTok ER (recvCell 1 c) 0 c) ∗ (dutyTok ER (sendCell c 2) 0 2 ∗ dutyTok ER (recvCell 2 c) 0 c)
    ∗ (dutyTok ER (sendCell c 3) 0 3 ∗ dutyTok ER (recvCell 3 c) 0 c))

/-- The cells device `c` waits on: the ones its peers signal with their launch credit, its own ones without. -/
def cellsAt (c : Dev nD) : sProp 𝕄 :=
  iprop((armed m c (csem 0) ∗ armed m c (csem (recvS 0)) ∗ armed m c (csem (recvS 1)) ∗ armed m c (csem (recvS 2)))
    ∗ atPos ER (inCell c) 0 ∅ 0 ∗ atPos ER (sendCell c 1) 0 ∅ 0 ∗ atPos ER (sendCell c 2) 0 ∅ 0 ∗ atPos ER (sendCell c 3) 0 ∅ 0)

/-- The kernel's scratch buffers, at any contents. -/
def scratch (c : Dev nD) : sProp 𝕄 := iprop((∃ f, vPts c f) ∗ (∃ f, sPts c fullShare f) ∗ (∃ f, rPts c f))

/-- Every cell of device `c` closed at zero. -/
def closed (c : Dev nD) : sProp 𝕄 := bigSep Finset.univ fun i : Fin 8 => semVal (kcell (c, i)) 0

/-! ## The parts put together -/

/-- The slot of device `k`: given away by the devices after it, kept by the others. -/
theorem give_slot (c k : Dev nD) :
    iprop(dutyTok ER (barCell k) 0 c ∗ slotAny c k)
      ⊢ (iprop(onlyIf (k < c) iprop(dutyTok ER (barCell k) 0 c ∗ slotAny c k) ∗ onlyIf (¬ k < c) (slotAny c k)) : sProp 𝕄) := by
  by_cases h : k < c
  · rw [onlyIf_pos h, onlyIf_neg fun hn => hn h]
    iintro ⟨H1, H2⟩
    isplitl
    · isplitl [H1]; · iexact H1
      iexact H2
    · iempintro
  · rw [onlyIf_neg h, onlyIf_pos h]
    iintro ⟨-, H2⟩
    isplitr; · iempintro
    iexact H2

/-- A transfer to `j` under way: on the devices before `j` its send cell is to be waited for, on the others nothing is to be. -/
theorem await_sent (c j : Dev nD) (hj : j ≠ 0) (f : Vec F S1x512 .f32) :
    iprop(sent c j f ∗ atPos ER (sendCell c j) 0 ∅ 0)
      ⊢ iprop(onlyIf (c < j) (armed m c (csem (sendS j)))
          ∗ onlyIf (¬ c < j) iprop(closable m c (csem (sendS j)) ∗ sPts c (shr j) f)) := by
  unfold sent
  by_cases h : c < j
  · rw [onlyIf_pos h, onlyIf_pos h, onlyIf_neg fun hn => hn h, onlyIf_neg fun hn => hn h]
    unfold armed
    rw [csem_send, expect_eq, duty_send h, Finset.card_singleton, amount_send, Nat.one_mul]
    iintro ⟨⟨H1, -⟩, H2⟩
    isplitl
    · isplitl [H1] <;> iassumption
    · iempintro
  · rw [onlyIf_neg h, onlyIf_pos h, onlyIf_neg h, onlyIf_pos h]
    iintro ⟨⟨-, H1⟩, H2⟩
    isplitr; · iempintro
    isplitl [H2]
    · iapply (closable_idle m (c := c) (s := csem (sendS j)) (by rw [csem_send]; exact duty_send_none hj h))
      rw [csem_send]; iexact H2
    · iexact H1

/-- The transfer over, on every device the send cell can be closed and the share of the send buffer is back. -/
theorem sent_back (c j : Dev nD) (hj : j ≠ 0) {f : Vec F S1x512 .f32} (hf : c < j → f = tot m c) :
    iprop(onlyIf (c < j) (done m c (csem (sendS j))) ∗ onlyIf (¬ c < j) iprop(closable m c (csem (sendS j)) ∗ sPts c (shr j) f))
      ⊢ iprop(closable m c (csem (sendS j)) ∗ sPts c (shr j) f) := by
  by_cases h : c < j
  · rw [onlyIf_pos h, onlyIf_neg fun hn => hn h]
    unfold done
    iintro ⟨⟨H1, H2⟩, -⟩
    isplitl [H1]; · iexact H1
    iapply (share_back m hj hf)
    isplitl [H2]; · iexact H2
    rw [onlyIf_neg fun hn => hn h]; iempintro
  · rw [onlyIf_neg h, onlyIf_pos h]
    iintro ⟨-, H⟩; iexact H

/-- Every cell of the device closes at zero. -/
theorem close_all (c : Dev nD) :
    iprop(records m K ∗ bigSep Finset.univ fun i : Fin 8 => closable m c (csem i)) ⊢ |={Set.univ}=> closed c := by
  refine (sep_mono_left (BI.bigSep_of_persistent (Finset.univ : Finset (Fin 8)) (records m K))).trans ?_
  rw [← bigSep_sep']
  exact (bigSep_mono fun i _ => close m K c i).trans (bigSep_fupd _ _)

/-- A program that is over may still update what it leaves. -/
theorem runs_end {α : Type} (c : Dev nD) (a : α) (Q : α → sProp 𝕄) : (|={Set.univ}=> Q a) ⊢ runs (F := F) c (.ret a) Q := by
  show (|={Set.univ}=> Q a) ⊢ wp frame (wpE (defs₀ (F := F)) 𝒱₀ (c : Thread nD τ) none) Set.univ (.ret a) Q
  rw [wp_ret]

/-- A product over eight, written out. -/
theorem over_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The body, run on device `c` from its start to the result in the output. -/
theorem run_device (c : Dev nD) (Q : PUnit → sProp 𝕄) :
    iprop(records m K ∗ levAts L lv ∗ owing c (O₀ c) ∗ xPts m c ∗ scratch c ∗ (∃ g, oPts c g) ∗ cellsAt m c ∗ duties c)
      ⊢ iprop((iprop(owing c 0 ∗ xPts m c ∗ scratch c ∗ oPts c (outAt m c) ∗ closed c) -∗ Q ⟨⟩)
        -∗ runs c (cc0_body xM (Memref.isWhole_whole _) oM (Memref.isWhole_whole _) vM (Memref.isWhole_whole _) sM (Memref.isWhole_whole _)
            rM (Memref.isWhole_whole _) cc0_scratch3 cc0_scratch4 cc0_scratch5) Q) := by
  rw [cc0_body_eq_skeleton]; unfold cc0_body_skel
  unfold scratch cellsAt duties
  iintro ⟨#HR, #Hlev, HO, Hx, ⟨⟨%f, Hv⟩, ⟨%g, Hs⟩, ⟨%r, Hr⟩⟩, ⟨%o, Ho⟩, ⟨⟨HB, HA0, HA1, HA2⟩, HaI, Ha1, Ha2, Ha3⟩,
    ⟨HtB0, HtB1, HtB2⟩, HtI, Ht1, Ht2, Ht3⟩ Hk
  -- the slots, given to the earlier devices or kept
  ihave Hr' := (slots_split c r) $$ Hr
  icases Hr' with ⟨Hr0, Hr1, Hr2⟩
  ihave HG0 := (give_slot c 0) $$ [HtB0 Hr0]
  · isplitl [HtB0] <;> iassumption
  icases HG0 with ⟨HG0, HN0⟩
  ihave HG1 := (give_slot c 1) $$ [HtB1 Hr1]
  · isplitl [HtB1] <;> iassumption
  icases HG1 with ⟨HG1, HN1⟩
  ihave HG2 := (give_slot c 2) $$ [HtB2 Hr2]
  · isplitl [HtB2] <;> iassumption
  icases HG2 with ⟨HG2, HN2⟩
  ihave HG0' := (after_zero c _).1 $$ HG0
  icases HG0' with ⟨HG01, HG0'⟩
  ihave HG0'' := (after_one c _).1 $$ HG0'
  icases HG0'' with ⟨HG02, HG03⟩
  ihave HG1' := (after_one c _).1 $$ HG1
  icases HG1' with ⟨HG12, HG13⟩
  ihave HG23 := (after_two c _).1 $$ HG2
  -- the barrier's cell, by the device
  ihave HB' := (onlyIf_split (c < 3) _) $$ HB
  icases HB' with ⟨HB, HB3⟩
  ihave HB' := (before_three c _).1 $$ HB
  icases HB' with ⟨HB, HB2⟩
  ihave HB' := (before_two c _).1 $$ HB
  icases HB' with ⟨HB0, HB1⟩
  iapply runs_bind
  iapply (part_one m K c _) $$ [HO Hx Hv HtI HaI HG01 HG02 HG03 HG12 HG13 HG23 Hs HB0]
  · isplitr; · iexact HR
    isplitr; · iexact Hlev
    isplitl [HO]; · iexact HO
    isplitl [Hx Hv HtI HaI]
    · isplitl [Hx]; · iexact Hx
      isplitl [Hv]; · iexact Hv
      isplitl [HtI]; · iexact HtI
      iexact HaI
    isplitl [HG01 HG02 HG03 HG12 HG13 HG23]
    · isplitl [HG01]; · iexact HG01
      isplitl [HG02]; · iexact HG02
      isplitl [HG03]; · iexact HG03
      isplitl [HG12]; · iexact HG12
      isplitl [HG13]; · iexact HG13
      iexact HG23
    isplitl [Hs]; · iexact Hs
    iexact HB0
  iintro ⟨HO, HCI, Hx, Hv, ⟨%g', %hg, Hs⟩, HB0⟩
  ihave Hs' := (shares c g').1 $$ Hs
  icases Hs' with ⟨Hs1, Hs2, Hs3⟩
  iapply runs_bind
  iapply (part_two m K c hg _) $$ [HO HB0 HB1 HB2 HB3 Ht1 Ht2 Ht3 Hs1 Hs2 Hs3 Hv]
  · isplitr; · iexact HR
    isplitr; · iexact Hlev
    isplitl [HO]; · iexact HO
    isplitl [HB0 HB1 HB2 HB3]
    · isplitl [HB0]; · iexact HB0
      isplitl [HB1]; · iexact HB1
      isplitl [HB2]; · iexact HB2
      iexact HB3
    isplitr [Hv]
    · unfold sendRes
      isplitl [Ht1 Hs1]
      · icases Ht1 with ⟨Ht1, Ht1'⟩
        isplitl [Ht1]; · iexact Ht1
        isplitl [Ht1']; · iexact Ht1'
        iexact Hs1
      isplitl [Ht2 Hs2]
      · icases Ht2 with ⟨Ht2, Ht2'⟩
        isplitl [Ht2]; · iexact Ht2
        isplitl [Ht2']; · iexact Ht2'
        iexact Hs2
      icases Ht3 with ⟨Ht3, Ht3'⟩
      isplitl [Ht3]; · iexact Ht3
      isplitl [Ht3']; · iexact Ht3'
      iexact Hs3
    iexact Hv
  iintro ⟨HO, HC0, ⟨Hs1, Hs2, Hs3⟩, Hv⟩
  iapply runs_bind
  iapply (part_three m K c _) $$ [HO HA0 HA1 HA2 HN0 HN1 HN2 Ho]
  · isplitr; · iexact HR
    isplitr; · iexact Hlev
    isplitl [HO]; · iexact HO
    isplitl [HA0 HA1 HA2]
    · isplitl [HA0]; · iexact HA0
      isplitl [HA1] <;> iassumption
    isplitl [HN0 HN1 HN2]
    · isplitl [HN0]; · iexact HN0
      isplitl [HN1] <;> iassumption
    iexact Ho
  iintro ⟨HO, ⟨HCR0, HCR1, HCR2⟩, ⟨Hr0, Hr1, Hr2⟩, Ho⟩
  -- the waits for the transfers
  ihave H1 := (await_sent m c 1 (by decide) g') $$ [Hs1 Ha1]
  · isplitl [Hs1] <;> iassumption
  icases H1 with ⟨H1, Hn1⟩
  ihave H2 := (await_sent m c 2 (by decide) g') $$ [Hs2 Ha2]
  · isplitl [Hs2] <;> iassumption
  icases H2 with ⟨H2, Hn2⟩
  ihave H3 := (await_sent m c 3 (by decide) g') $$ [Hs3 Ha3]
  · isplitl [Hs3] <;> iassumption
  icases H3 with ⟨H3, Hn3⟩
  ihave H01 := (before_one c _).1 $$ H1
  ihave H2' := (before_two c _).1 $$ H2
  icases H2' with ⟨H02, H12⟩
  ihave H3' := (before_three c _).1 $$ H3
  icases H3' with ⟨H3', H23⟩
  ihave H3'' := (before_two c _).1 $$ H3'
  icases H3'' with ⟨H03, H13⟩
  iapply (sent_if m K (c := c) (k := 0) (j := 1) (by decide) (test_eq c 0) rfl) $$ [HO H01]
  · isplitr; · iexact HR
    isplitr; · iexact Hlev
    isplitl [HO]; · iexact HO
    iexact H01
  iintro ⟨HO, H01⟩
  iapply (sent_if m K (c := c) (k := 0) (j := 2) (by decide) (test_eq c 0) rfl) $$ [HO H02]
  · isplitr; · iexact HR
    isplitr; · iexact Hlev
    isplitl [HO]; · iexact HO
    iexact H02
  iintro ⟨HO, H02⟩
  iapply (sent_if m K (c := c) (k := 0) (j := 3) (by decide) (test_eq c 0) rfl) $$ [HO H03]
  · isplitr; · iexact HR
    isplitr; · iexact Hlev
    isplitl [HO]; · iexact HO
    iexact H03
  iintro ⟨HO, H03⟩
  iapply (sent_if m K (c := c) (k := 1) (j := 2) (by decide) (test_eq c 1) rfl) $$ [HO H12]
  · isplitr; · iexact HR
    isplitr; · iexact Hlev
    isplitl [HO]; · iexact HO
    iexact H12
  iintro ⟨HO, H12⟩
  iapply (sent_if m K (c := c) (k := 1) (j := 3) (by decide) (test_eq c 1) rfl) $$ [HO H13]
  · isplitr; · iexact HR
    isplitr; · iexact Hlev
    isplitl [HO]; · iexact HO
    iexact H13
  iintro ⟨HO, H13⟩
  iapply (sent_if m K (c := c) (k := 2) (j := 3) (by decide) (test_eq c 2) rfl) $$ [HO H23]
  · isplitr; · iexact HR
    isplitr; · iexact Hlev
    isplitl [HO]; · iexact HO
    iexact H23
  iintro ⟨HO, H23⟩
  ihave H1 := (before_one c _).2 $$ H01
  ihave H2 := (before_two c _).2 $$ [H02 H12]
  · isplitl [H02] <;> iassumption
  ihave H3' := (before_two c _).2 $$ [H03 H13]
  · isplitl [H03] <;> iassumption
  ihave H3 := (before_three c _).2 $$ [H3' H23]
  · isplitl [H3'] <;> iassumption
  ihave HS1 := (sent_back m c 1 (by decide) (f := g') (fun h => hg (lt_of_lt_of_le h (by decide)))) $$ [H1 Hn1]
  · isplitl [H1] <;> iassumption
  icases HS1 with ⟨HCS1, Hs1⟩
  ihave HS2 := (sent_back m c 2 (by decide) (f := g') (fun h => hg (lt_of_lt_of_le h (by decide)))) $$ [H2 Hn2]
  · isplitl [H2] <;> iassumption
  icases HS2 with ⟨HCS2, Hs2⟩
  ihave HS3 := (sent_back m c 3 (by decide) (f := g') (fun h => hg (lt_of_lt_of_le h (by decide)))) $$ [H3 Hn3]
  · isplitl [H3] <;> iassumption
  icases HS3 with ⟨HCS3, Hs3⟩
  simp only [Prog.pure_eq_ret]
  iapply (runs_end c)
  imod (close_all m K c) $$ [HC0 HCI HCS1 HCS2 HCS3 HCR0 HCR1 HCR2] with Hcl
  · isplitr; · iexact HR
    rw [over_eight]
    isplitl [HC0]; · iexact HC0
    isplitl [HCI]; · iexact HCI
    isplitl [HCS1]; · iexact HCS1
    isplitl [HCS2]; · iexact HCS2
    isplitl [HCS3]; · iexact HCS3
    isplitl [HCR0]; · iexact HCR0
    isplitl [HCR1]; · iexact HCR1
    iexact HCR2
  imodintro
  iapply Hk
  isplitl [HO]; · iexact HO
  isplitl [Hx]; · iexact Hx
  isplitl [Hv Hs1 Hs2 Hs3 Hr0 Hr1 Hr2]
  · isplitl [Hv]; · (iexists (xin m c); iexact Hv)
    isplitl [Hs1 Hs2 Hs3]
    · iexists g'
      iapply (shares c g').2
      isplitl [Hs1]; · iexact Hs1
      isplitl [Hs2] <;> iassumption
    · iapply (slots_join c)
      isplitl [Hr0]; · iexact Hr0
      isplitl [Hr1] <;> iassumption
  isplitl [Ho]; · iexact Ho
  iexact Hcl

end Cert.ScanProof

end
-- ==== Proof.Credits.lean ====
/-
# What the launch deals out: credits and duties

A cell that peers signal starts with credit for all that its peers owe it; that is what its round expects. The right to
pay a duty starts with the semaphore it pays, and is dealt to the device that pays it.
-/
module

public import proofs.«01_k».proof.Proof.Device

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Credits -/

/-- Two cells are equal when their devices and their semaphores are. -/
theorem cell_eq_iff {a c : Dev nD} {s t : SemLoc sig} :
    (((c : Thread nD τ), t) : GSem nD τ sig) = ((a : Thread nD τ), s) ↔ a = c ∧ s = t :=
  ⟨fun h => ⟨(congrArg (fun g : GSem nD τ sig => g.1.1) h).symm, (congrArg Prod.snd h).symm⟩, fun ⟨h, h'⟩ => by rw [h, h']⟩

/-- What a conditional debt comes to at one cell. -/
theorem owedIf_at (p : Prop) [Decidable p] (a c : Dev nD) (s t : SemLoc sig) (n : ℕ) :
    owedIf p (tallyAt ((a : Thread nD τ), s) () n) ((c : Thread nD τ), t) () = if p ∧ a = c ∧ s = t then n else 0 := by
  unfold owedIf
  by_cases hp : p
  · rw [if_pos hp, tallyAt_apply]
    by_cases h : a = c ∧ s = t
    · rw [if_pos ⟨cell_eq_iff.mpr h, rfl⟩, if_pos ⟨hp, h⟩]
    · rw [if_neg fun h' => h (cell_eq_iff.mp h'.1), if_neg fun h' => h h'.2]
  · rw [if_neg hp, if_neg fun h' => hp h'.1]; rfl

/-- How many of the pairs make device `d` send to the semaphore `t` of device `c`; -/
def sendsTo (d c : Dev nD) (t : SemLoc sig) (l : List (Dev nD × Dev nD)) : ℕ :=
  l.countP fun p => d = p.1 ∧ p.2 = c ∧ (.dma (recvS d) : SemLoc sig) = t
/-- how many make it signal it. -/
def signalsTo (d c : Dev nD) (t : SemLoc sig) (l : List (Dev nD × Dev nD)) : ℕ :=
  l.countP fun p => d = p.2 ∧ p.1 = c ∧ (.reg barS : SemLoc sig) = t

/-- What device `d` owes to a cell through its sends, -/
theorem owesSends_at (d c : Dev nD) (t : SemLoc sig) :
    ∀ l, owesSends d l ((c : Thread nD τ), t) () = sendsTo d c t l * N
  | [] => (Nat.zero_mul _).symm
  | p :: l => by
    unfold owesSends
    rw [Pi.add_apply, Finsupp.add_apply, owesSends_at d c t l, owedIf_at]
    unfold sendsTo
    rw [List.countP_cons, Nat.add_mul]
    by_cases h : d = p.1 ∧ p.2 = c ∧ (.dma (recvS d) : SemLoc sig) = t
    · rw [if_pos h, if_pos (decide_eq_true h), Nat.one_mul]
    · rw [if_neg h, if_neg (by rw [decide_eq_true_eq]; exact h), Nat.zero_mul]
/-- and through its signals and its sends. -/
theorem owesAll_at (d c : Dev nD) (t : SemLoc sig) :
    ∀ l, owesAll d l ((c : Thread nD τ), t) () = sendsTo d c t pairs * N + signalsTo d c t l
  | [] => owesSends_at d c t pairs
  | p :: l => by
    unfold owesAll
    rw [Pi.add_apply, Finsupp.add_apply, owesAll_at d c t l, owedIf_at]
    unfold signalsTo
    rw [List.countP_cons, Nat.add_assoc]
    by_cases h : d = p.2 ∧ p.1 = c ∧ (.reg barS : SemLoc sig) = t
    · rw [if_pos h, if_pos (decide_eq_true h)]
    · rw [if_neg h, if_neg (by rw [decide_eq_true_eq]; exact h)]

/-- All that is owed to a cell at launch. -/
theorem owed_total (c : Dev nD) (t : SemLoc sig) :
    (∑ d, O₀ d ((c : Thread nD τ), t) ()) = (∑ d, sendsTo d c t pairs) * N + ∑ d, signalsTo d c t pairs := by
  rw [Finset.sum_congr rfl fun d _ => owesAll_at d c t pairs, Finset.sum_add_distrib, Finset.sum_mul]

/-- A barrier cell gets one signal for each later device and no send, -/
theorem count_bar (c : Dev nD) : (∑ d, sendsTo d c (.reg barS) pairs) = 0
    ∧ (∑ d, signalsTo d c (.reg barS) pairs) = (dutyOf c (.reg barS)).card := by revert c; decide
/-- a receive cell gets one send for the device it is for, if that one comes earlier, and no signal. -/
theorem count_recv (c k : Dev nD) (hk : k ≠ 3) : (∑ d, sendsTo d c (.dma (recvS k)) pairs) = (dutyOf c (.dma (recvS k))).card
    ∧ (∑ d, signalsTo d c (.dma (recvS k)) pairs) = 0 := by revert hk; revert c k; decide

/-- Each barrier cell and each receive cell is owed what its round expects. -/
theorem owed_bar (c : Dev nD) : (∑ d, O₀ d (barCell c) ()) = (sched m).expect (barCell c) 0 := by
  rw [owed_total, expect_eq, (count_bar c).1, (count_bar c).2, Nat.zero_mul, Nat.zero_add]
  exact (Nat.mul_one _).symm
/-- Each receive cell is owed what its round expects. -/
theorem owed_recv (c k : Dev nD) (hk : k ≠ 3) : (∑ d, O₀ d (recvCell c k) ()) = (sched m).expect (recvCell c k) 0 := by
  rw [owed_total, expect_eq, (count_recv c k hk).1, (count_recv c k hk).2, Nat.add_zero, amount_recv]

/-- The launch credit of a cell is what is owed to it. -/
theorem credit_eq {g : GSem nD τ sig} {n : ℕ} (h : (∑ d, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, h, Finsupp.single_eq_same]

/-- The credits of the cells of device `c` that peers signal. -/
theorem credits (c : Dev nD) :
    (Pipeline.launchCred O₀ c : sProp 𝕄) ⊢ iprop(cred (tallyAt (barCell c) () ((sched m).expect (barCell c) 0))
      ∗ cred (tallyAt (recvCell c 0) () ((sched m).expect (recvCell c 0) 0))
      ∗ cred (tallyAt (recvCell c 1) () ((sched m).expect (recvCell c 1) 0))
      ∗ cred (tallyAt (recvCell c 2) () ((sched m).expect (recvCell c 2) 0))) := by
  unfold Pipeline.launchCred
  rw [← credit_eq (owed_bar m c), ← credit_eq (owed_recv m c 0 (by decide)), ← credit_eq (owed_recv m c 1 (by decide)),
    ← credit_eq (owed_recv m c 2 (by decide))]
  refine (BI.bigSep_subset (t := {.reg barS, .dma (recvS 0), .dma (recvS 1), .dma (recvS 2)}) (Finset.subset_univ _)).trans ?_
  rw [bigSep_eq_bigSepL_of_eq [.reg barS, .dma (recvS 0), .dma (recvS 1), .dma (recvS 2)] (by decide) (by decide)]
  exact BI.Entails.refl _

/-! ## Duties -/

/-- The four kinds of semaphores a device has, the last two for each peer. -/
def kindSem (d : Dev nD) : Fin 4 → SemLoc sig := ![.reg barS, .dma inS, .dma (sendS d), .dma (recvS d)]
/-- The four semaphores differ, -/
theorem kindSem_injective (d : Dev nD) : Function.Injective (kindSem d) := by
  intro k k'; revert d k k'; decide

/-- A duty: whose semaphore, of which kind, and its name. -/
abbrev tok (x : Dev nD × Fin 4 × Dev nD) : GSem nD τ sig × ℕ × Dev nD := (((x.1 : Thread nD τ), kindSem x.2.2 x.2.1), 0, x.2.2)
/-- and so do the duties they name. -/
theorem tok_injective : Function.Injective tok := by
  rintro ⟨o, k, d⟩ ⟨o', k', d'⟩ h
  have hd : d = d' := congrArg (fun y : GSem nD τ sig × ℕ × Dev nD => y.2.2) h
  subst hd
  obtain ⟨ho, hk⟩ := cell_eq_iff.mp (congrArg Prod.fst h)
  have ho : o' = o := ho
  rw [ho, kindSem_injective d (show kindSem d k = kindSem d k' from hk.symm)]

/-- Every duty of the schedule. -/
def allToks : Finset (GSem nD τ sig × ℕ × Dev nD) := Finset.univ.map ⟨tok, tok_injective⟩

/-- Different devices or different numbers give different cells. -/
theorem kcell_injective : Function.Injective (kcell : Dev nD × Fin 8 → GSem nD τ sig) := by
  rintro ⟨c, i⟩ ⟨c', i'⟩ h
  obtain ⟨hc, hi⟩ := cell_eq_iff.mp h
  have inj : ∀ i i' : Fin 8, csem i' = csem i → i = i' := by decide
  have hc : c' = c := hc
  rw [hc, inj i i' hi]

/-- Every cell of the kernel. -/
def allCells : Finset (GSem nD τ sig) := Finset.univ.map ⟨kcell, kcell_injective⟩

/-- The duties of the semaphores of device `o`. -/
def toks (o : Dev nD) : sProp 𝕄 :=
  bigSep Finset.univ fun k : Fin 4 => bigSep Finset.univ fun d : Dev nD => dutyTok ER ((o : Thread nD τ), kindSem d k) 0 d

omit [FloatOps F] in
/-- All duties, dealt by the device they are named after. -/
theorem allToks_eq : bigSep allToks (fun x => (dutyTok ER x.1 x.2.1 x.2.2 : sProp 𝕄)) = bigSep Finset.univ fun o : Dev nD => toks o := by
  unfold allToks toks
  rw [bigSep_map, bigSep_univ_prod]
  exact bigSep_congr fun o _ => by rw [bigSep_univ_prod]; rfl

omit [FloatOps F] in
/-- All cells, dealt by device. -/
theorem allCells_eq (Φ : GSem nD τ sig → sProp 𝕄) :
    bigSep allCells Φ = bigSep Finset.univ fun c : Dev nD => bigSep Finset.univ fun i : Fin 8 => Φ (kcell (c, i)) := by
  unfold allCells
  rw [bigSep_map, bigSep_univ_prod]; rfl

omit [FloatOps F] in
/-- Dealt to the devices that pay them: the duties of a barrier and of the receive semaphores to the device they are
    named after, the others to the device whose semaphore it is. -/
theorem deal : (bigSep Finset.univ fun o : Dev nD => (toks o : sProp 𝕄)) ⊢ bigSep Finset.univ fun c : Dev nD => duties c := by
  unfold toks
  rw [bigSep_congr fun (o : Dev nD) _ => over_four fun k : Fin 4 => bigSep Finset.univ fun d : Dev nD =>
      (dutyTok ER ((o : Thread nD τ), kindSem d k) 0 d : sProp 𝕄),
    bigSep_sep', bigSep_sep', bigSep_sep',
    Pipeline.bigSep_univ_comm fun o d : Dev nD => (dutyTok ER ((o : Thread nD τ), kindSem d 0) 0 d : sProp 𝕄),
    Pipeline.bigSep_univ_comm fun o d : Dev nD => (dutyTok ER ((o : Thread nD τ), kindSem d 3) 0 d : sProp 𝕄),
    ← bigSep_sep', ← bigSep_sep', ← bigSep_sep']
  refine bigSep_mono fun c _ => ?_
  have h4 := fun Φ : Dev nD → sProp 𝕄 => over_four Φ
  rw [h4, h4, h4, h4]
  unfold duties
  show (_ : sProp 𝕄) ⊢ _
  iintro ⟨⟨Hb0, Hb1, Hb2, -⟩, ⟨Hi, -⟩, ⟨-, Hs1, Hs2, Hs3⟩, ⟨-, Hr1, Hr2, Hr3⟩⟩
  isplitl [Hb0 Hb1 Hb2]
  · isplitl [Hb0]; · iexact Hb0
    isplitl [Hb1]; · iexact Hb1
    iexact Hb2
  isplitl [Hi]; · iexact Hi
  isplitl [Hs1 Hr1]
  · isplitl [Hs1]; · iexact Hs1
    iexact Hr1
  isplitl [Hs2 Hr2]
  · isplitl [Hs2]; · iexact Hs2
    iexact Hr2
  isplitl [Hs3]; · iexact Hs3
  iexact Hr3

end Cert.ScanProof

end
-- ==== Proof.Run.lean ====
/-
# The launch, and the kernel's run

Every cell's invariant is allocated for all devices at once; each device then starts with the records of all cells, its
positions, its credits and the duties it pays, runs the body once, and leaves its block of the result.
-/
module

public import proofs.«01_k».proof.Proof.Credits
public import Idealize.ShloMosaic.Lib.Pipeline.CollectiveSegs

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` starts with, apart from its scratch buffers. -/
def start (c : Dev nD) : sProp 𝕄 :=
  iprop(xPts m c ∗ levAts L lv ∗ ∃ K, records m K ∗ cellsAt m c ∗ duties c)

/-- What it ends with, apart from its result. -/
def ending (c : Dev nD) : sProp 𝕄 := iprop(xPts m c ∗ scratch c ∗ closed c)

/-- What the pipeline keeps for each device: the output ends at the device's result. -/
def dats (_ : Fin 1) (c : Dev nD) : Pipeline.Dat τ (Elt F) Unit ℕ UU ℕ cfg0 c where
  A w := m ((cfg0.win w).arr.view.loc (c : Thread nD τ))
  after w _ := match w with
    | ⟨0, _⟩ => outAt m c
  Φ t := match t with
    | ⟨0, _⟩ => iprop(start m c ∗ scratch c)
    | ⟨_ + 1, _⟩ => ending m c
  q _ := fullShare
  owed t := match t with
    | ⟨0, _⟩ => O₀ c
    | ⟨_ + 1, _⟩ => 0

/-! ## Buffers as the launch names them -/

/-- Owning the block of `x` is owning the argument, -/
theorem xPts_eq (c : Dev nD) : (xPts m c : sProp 𝕄) = iprop(((c : Thread nD τ).loc main_arg0) ↦{fullShare} m ((c : Thread nD τ).loc main_arg0)) := by
  unfold xPts; rw [View.set_whole]; rfl
/-- owning the output's staging buffer is owning its location, -/
theorem oPts_eq (c : Dev nD) (f : Vec F S512x512 .f32) :
    (oPts c f : sProp 𝕄) = owns (c : Thread nD τ) (Memref.whole cc0_stg0_0) fullShare f := by
  unfold oPts; rw [View.set_whole, owns_whole]
/-- and the rest of the scoped buffers are the kernel's scratch. -/
theorem scratch_eq (c : Dev nD) : (Pipeline.scopedRest (Ix := Unit) (Name := ℕ) (U := UU) (Lvl := ℕ) (Val := Elt F) cfg0.spec c : sProp 𝕄) = scratch c := by
  rw [scopedRest0_eq]; unfold scratch vPts sPts rPts; simp only [View.set_whole]; rfl

/-! ## The body -/

/-- The body, as the pipeline calls it. -/
theorem body_ok (c : Dev nD) : Pipeline.BodyObligation (dats (F := F) m 0 c) (defs₀ (F := F)) 𝒱₀ () Set.univ := fun t => by
  rw [fin_N0 t, bigSep_W0, bigSep_W0]
  show iprop((start m c ∗ scratch c) ∗ (dats m 0 c).owesAt () t0_0.castSucc
      ∗ ∃ d, owns (c : Thread nD τ) (Memref.whole cc0_stg0_0) fullShare ((dats m 0 c).before (0 : Fin 1) t0_0 d))
    ⊢ runs c (cc0_body xM (Memref.isWhole_whole _) oM (Memref.isWhole_whole _) vM (Memref.isWhole_whole _) sM (Memref.isWhole_whole _)
        rM (Memref.isWhole_whole _) cc0_scratch3 cc0_scratch4 cc0_scratch5)
      fun _ => iprop(ending m c ∗ (dats m 0 c).owesAt () t0_0.succ
        ∗ owns (c : Thread nD τ) (Memref.whole cc0_stg0_0) fullShare (outAt m c))
  unfold start
  iintro ⟨⟨⟨Hx, Hlev, ⟨%K, HR, Hc, Hd⟩⟩, Hs⟩, ⟨%W, %hW, HO⟩, ⟨%d, Ho⟩⟩
  iapply (run_device m K c _) $$ [Hx Hlev HR Hc Hd Hs HO Ho]
  · isplitl [HR]; · iexact HR
    isplitl [Hlev]; · iexact Hlev
    isplitl [HO]; · (unfold owing; iexists W; iexact HO)
    isplitl [Hx]; · iexact Hx
    isplitl [Hs]; · iexact Hs
    isplitl [Ho]; · (iexists _; rw [oPts_eq]; iexact Ho)
    isplitl [Hc]; · iexact Hc
    iexact Hd
  unfold owing ending
  iintro ⟨⟨%W', HO⟩, Hx, Hs, Ho, Hcl⟩
  isplitl [Hx Hs Hcl]
  · isplitl [Hx]; · iexact Hx
    isplitl [Hs] <;> iassumption
  isplitl [HO]
  · iexists W'
    isplitr; · ipureintro; exact fun _ _ => Or.inl trivial
    iexact HO
  rw [← oPts_eq]; iexact Ho

/-! ## The launch -/

/-- The kernel's own semaphores: all the DMA semaphores but the staging one. -/
def osem (i : Fin 7) : SemLoc sig := .dma (i.succ : Fin 8)
/-- The kernel's own semaphores are no window's. -/
theorem ownSemFacts : Pipeline.OwnSemFacts cfg0.spec osem := by decide

/-- With the barrier, they are the protocol's. -/
theorem sems_eq (c : Dev nD) :
    iprop(unscopedSems0 c ∗ Pipeline.ownSems0 (Ix := Unit) (Name := ℕ) (U := UU) (Lvl := ℕ) (Val := Elt F) (τ := τ) osem c) = (closed c : sProp 𝕄) := by
  unfold closed unscopedSems0
  rw [bigSep_eq_bigSepL_of_eq [SemLoc.reg barS] (by decide) (by decide),
    Pipeline.ownSems0_eq_of_list c osem [0, 1, 2, 3, 4, 5, 6] (by decide) (by decide), over_eight (F := F)]
  rfl

/-- What the launch deals device `c`: every cell of it at round 0, and its duties. -/
def dealt (c : Dev nD) : sProp 𝕄 :=
  iprop((bigSep Finset.univ fun i : Fin 8 => roundState ER (sched m) (kcell (c, i)) 0)
    ∗ ((bigSep Finset.univ fun i : Fin 8 => atPos ER (kcell (c, i)) 0 ∅ 0) ∗ bigSep Finset.univ fun i : Fin 8 => reached ER (kcell (c, i)) 0)
    ∗ toks c)
/-- What it has once the cells' invariants are allocated. -/
def posted (c : Dev nD) : sProp 𝕄 :=
  iprop(∃ K, records m K ∗ (bigSep Finset.univ fun i : Fin 8 => atPos ER (kcell (c, i)) 0 ∅ 0) ∗ duties c)

/-- The ghost state at launch. -/
def u₀ : UU := (initOf (Pipeline.cells cfgs cellOf_inj) (Pipeline.launchToks cfgs cellOf_inj), initOf allCells allToks)

/-- The launch's ghost state gives every device what it is dealt. -/
theorem fund_all : BI.own (ER (initOf allCells allToks)) ⊢ (|==> bigSep Finset.univ (dealt m) : sProp 𝕄) := by
  iintro HX
  imod (Rounds.fund ER (sched m) allCells allToks) $$ HX with ⟨Hst, Hr, Hat, Htok⟩
  imodintro
  ihave Hst' := (Entails.of_eq (allCells_eq fun g => roundState ER (sched m) g 0)) $$ Hst
  ihave Hat' := (Entails.of_eq (allCells_eq fun g => atPos ER g 0 ∅ 0)) $$ Hat
  ihave Hr' := (Entails.of_eq (allCells_eq fun g => reached ER g 0)) $$ Hr
  ihave Htok' := (Entails.of_eq allToks_eq) $$ Htok
  unfold dealt; simp only [bigSep_sep']
  isplitl [Hst']; · iexact Hst'
  isplitl [Hat' Hr']
  · isplitl [Hat'] <;> iassumption
  iexact Htok'

/-- One device's invariants allocated, at names still to be told. -/
theorem allocate (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : Fin 8 => iprop(∃ κ : ℕ, cellInv ER (sched m) κ (kcell (c, i))))
          ∗ ((bigSep Finset.univ fun i : Fin 8 => atPos ER (kcell (c, i)) 0 ∅ 0) ∗ bigSep Finset.univ fun i : Fin 8 => reached ER (kcell (c, i)) 0)
          ∗ toks c) := by
  have h : iprop(closed c ∗ bigSep Finset.univ fun i : Fin 8 => roundState ER (sched m) (kcell (c, i)) 0)
      ⊢ (|={Set.univ}=> bigSep Finset.univ fun i : Fin 8 => iprop(∃ κ : ℕ, cellInv ER (sched m) κ (kcell (c, i))) : sProp 𝕄) := by
    unfold closed
    rw [← bigSep_sep']
    exact (bigSep_mono fun i _ => (Rounds.body_intro ER (sched m) (kcell (c, i))).trans inv_alloc).trans (bigSep_fupd _ _)
  unfold dealt
  iintro ⟨Ho, Hu, Hst, Hrest⟩
  imod h $$ [Ho Hu Hst] with Hinv
  · isplitr [Hst]
    · rw [← sems_eq]
      isplitl [Hu] <;> iassumption
    · iexact Hst
  imodintro
  isplitl [Hinv] <;> iassumption

/-- The records, known to one device, are known to all. -/
theorem tell (K : Dev nD × Fin 8 → ℕ) :
    iprop(records m K ∗ (bigSep Finset.univ fun c : Dev nD => bigSep Finset.univ fun i : Fin 8 => atPos ER (kcell (c, i)) 0 ∅ 0)
        ∗ bigSep Finset.univ fun c : Dev nD => duties c)
      ⊢ bigSep Finset.univ (posted m) := by
  refine (sep_mono_left (BI.bigSep_of_persistent (Finset.univ : Finset (Dev nD)) (records m K))).trans ?_
  rw [← bigSep_sep', ← bigSep_sep']
  refine bigSep_mono fun c _ => ?_
  unfold posted
  show (_ : sProp 𝕄) ⊢ _
  iintro H
  iexists K
  iexact H

/-- Every device gets the records of all cells, and keeps its own positions and duties. -/
theorem regroup :
    (bigSep Finset.univ fun c : Dev nD => iprop((bigSep Finset.univ fun i : Fin 8 => iprop(∃ κ : ℕ, cellInv ER (sched m) κ (kcell (c, i))))
          ∗ ((bigSep Finset.univ fun i : Fin 8 => atPos ER (kcell (c, i)) 0 ∅ 0) ∗ bigSep Finset.univ fun i : Fin 8 => reached ER (kcell (c, i)) 0)
          ∗ toks c) : sProp 𝕄)
      ⊢ bigSep Finset.univ (posted m) := by
  rw [bigSep_sep', bigSep_sep', bigSep_sep', ← bigSep_univ_prod (fun ck : Dev nD × Fin 8 => iprop(∃ κ : ℕ, cellInv ER (sched m) κ (kcell ck))),
    ← bigSep_univ_prod (fun ck : Dev nD × Fin 8 => (reached ER (kcell ck) 0 : sProp 𝕄))]
  iintro ⟨HI, ⟨Hat, HR⟩, Htok⟩
  ihave HK := (BI.bigSep_exists_pi Finset.univ (fun (ck : Dev nD × Fin 8) (κ : ℕ) => (cellInv ER (sched m) κ (kcell ck) : sProp 𝕄))) $$ HI
  icases HK with ⟨%K, HI⟩
  ihave Hd := (deal (F := F)) $$ Htok
  iapply (tell m K)
  isplitl [HI HR]
  · unfold records
    isplitl [HI] <;> iassumption
  isplitl [Hat] <;> iassumption

/-- All devices' invariants are allocated together. -/
theorem allocate_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (posted m) :=
  ((bigSep_mono fun c _ => allocate m c).trans (bigSep_fupd _ _)).trans (BI.fupd_mono (regroup m))

/-! ## The theorem's side conditions -/

/-- The window's buffers are owned whole. -/
theorem share_eq (c : Dev nD) (w : Fin cfg0.W) : (dats m 0 c).share w = fullShare := by unfold Pipeline.Dat.share; split <;> rfl

/-- What the launch leaves a device is what the body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ posted m c)
      ⊢ |={Set.univ}=> iprop(start m c ∗ emp) := by
  rw [Pipeline.unscopedRestP_none, unscopedRest0_eq, ← xPts_eq]
  unfold posted start cellsAt armed
  rw [over_eight]
  iintro ⟨Hx, Hlev, Hcr, -, ⟨%K, HR, ⟨H0, H1, H2, H3, H4, H5, H6, H7⟩, Hd⟩⟩
  ihave Hc := (credits m c) $$ Hcr
  icases Hc with ⟨Hcb, Hc0, Hc1, Hc2⟩
  imodintro
  isplitl
  · isplitl [Hx]; · iexact Hx
    isplitl [Hlev]; · iexact Hlev
    iexists K
    isplitl [HR]; · iexact HR
    isplitr [Hd]
    · isplitl [H0 H5 H6 H7 Hcb Hc0 Hc1 Hc2]
      · isplitl [H0 Hcb]
        · isplitl [Hcb]; · iexact Hcb
          iexact H0
        isplitl [H5 Hc0]
        · isplitl [Hc0]; · iexact Hc0
          iexact H5
        isplitl [H6 Hc1]
        · isplitl [Hc1]; · iexact Hc1
          iexact H6
        isplitl [Hc2]; · iexact Hc2
        iexact H7
      isplitl [H1]; · iexact H1
      isplitl [H2]; · iexact H2
      isplitl [H3]; · iexact H3
      iexact H4
    iexact Hd
  · iempintro

/-- The pipeline's own waits are below everything the device owes. -/
theorem waits (c : Dev nD) : (levAts L lv : sProp 𝕄) ⊢ Pipeline.cellsWaits cfgs (dats m) () 0 c :=
  Pipeline.cellsWaits_intro cfgs (dats m) () 0 c fun w s t => by
    have hs : level (.dma ((cfg0.win w).sem s)) = 0 := by fin_cases w <;> fin_cases s <;> decide
    refine mayWait c _ _ fun g hg => ?_
    rw [hs]
    rcases t with ⟨_ | _, ht⟩
    · exact owesAll_pos (c := c) (l := pairs) hg
    · exact absurd hg (Nat.lt_irrefl 0)

/-! ## The run -/

/-- What the result array of device `c` holds at the end. -/
theorem result_arr (c : Dev nD) : (dats m 0 c).arrAt (0 : Fin 1) cfg0.N = outAt m c := by
  have hz : (fun a => (win0_0.index (0 : Fin 1)) a * main_v1.ty.shape.size a) = fun _ => 0 :=
    funext fun a => by fin_cases a <;> decide
  have h : (win0_0.blk (0 : Fin 1)).view.read (Elt F) ((dats m 0 c).arrAt (0 : Fin 1) cfg0.N) = outAt m c := by
    rw [show cfg0.N = ((0 : Fin 1) : Fin cfg0.N).val + 1 from rfl, (dats m 0 c).arrAt_succ (0 : Fin 1) (0 : Fin 1),
      show (cfg0.win (0 : Fin 1)).flush (0 : Fin 1) = true from flush0_0 _, if_pos rfl]
    exact View.read_write_univ _ _
  rw [← h]
  exact (Memref.read_access_unit_zero (Elt F) main_v1 hz (fun a => by fin_cases a <;> decide) _).symm

set_option maxRecDepth 8000 in
/-- From any memory with all counters at zero, every run ends with each device's result at `outAt`, its block of `x` as
    it was, and all counters at zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ok m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := posted m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := allocate_all m)
    (hA := fun _ _ => rfl) (hpf := fun _ k => k.elim0)
    (X := start m) (Y := fun c => iprop(unscopedSems0 c ∗ xPts m c)) (Z := fun _ => iprop(emp))
    (hX := start_intro m ρ)
    (hin := fun c => by
      rw [scratch_eq]
      show _ ⊢ iprop(start m c ∗ scratch c)
      iintro ⟨H, -, Hs⟩
      isplitl [H] <;> iassumption)
    (hout := fun c => by
      rw [scratch_eq]
      show ending m c ⊢ _
      unfold ending
      rw [← sems_eq]
      iintro ⟨Hx, Hs, Hu, Ho⟩
      isplitl [Hx Hu]
      · isplitl [Hu] <;> iassumption
      isplitl [Ho] <;> iassumption)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      rw [xPts_eq]
      iintro ⟨⟨Hu, Hx⟩, -, HSI⟩
      icombine HSI Hx gives %hx
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ hx, hs⟩
      iexact HSI)
    (hQ := fun _ h hs => ⟨fun c => ⟨((h c).1 (0 : Fin 1)).trans (result_arr m c), (h c).2.2.1⟩, sem_eq_zero hs fun c => (h c).2.2.2⟩)

end Cert.ScanProof

end
-- ==== Proof.Sums.lean ====
/-
# Running sums, cut into blocks

What a running sum over 2048 rows is: as a window reduction, and as four blocks of 512 rows.
-/
module

public import Idealize.ShloMosaic.Lib.ValueIdx
public import Idealize.ShloMosaic.PureOps.Ideal.Laws

@[expose] public section

noncomputable section

namespace Cert.ScanProof

open Idealize.ShloMosaic Idealize.ShloMosaic.ValueIdx

/-! ## Sums -/

/-- Adding the terms of a list one after the other adds their sum. -/
theorem foldl_add_sum {ι M : Type*} [AddCommMonoid M] (g : ι → M) (l : List ι) (a : M) :
    l.foldl (fun r n => r + g n) a = a + (l.map g).sum := by
  induction l generalizing a with
  | nil => simp
  | cons n l ih => rw [List.foldl_cons, ih, List.map_cons, List.sum_cons, add_assoc]

/-- A window that ends at `j` and starts before the first element sees the elements up to `j`. -/
theorem sum_window_ends {M : Type*} [AddCommMonoid M] {N : ℕ} (f : Fin (N + 1) → M) (j : Fin (N + 1)) :
    (∑ a : Fin (N + 1), if h : N ≤ j.val + a.val then f ⟨j.val + a.val - N, by omega⟩ else 0)
      = ∑ i : Fin (N + 1), if i ≤ j then f i else 0 := by
  rw [← Finset.sum_filter]
  refine (Finset.sum_subset (Finset.subset_univ (Finset.univ.filter fun a : Fin (N + 1) => N ≤ j.val + a.val)) fun a _ ha =>
    dif_neg fun h => ha (Finset.mem_filter.mpr ⟨Finset.mem_univ _, h⟩)).symm.trans ?_
  refine Finset.sum_bij' (fun a ha => ⟨j.val + a.val - N, by omega⟩)
    (fun i hi => ⟨i.val + N - j.val, by have := (Finset.mem_filter.mp hi).2; rw [Fin.le_def] at this; omega⟩) ?_ ?_ ?_ ?_ ?_
  · intro a ha
    exact Finset.mem_filter.mpr ⟨Finset.mem_univ _, by rw [Fin.le_def]; show j.val + a.val - N ≤ j.val; omega⟩
  · intro i hi
    exact Finset.mem_filter.mpr ⟨Finset.mem_univ _, by show N ≤ j.val + (i.val + N - j.val); omega⟩
  · intro a ha
    have := (Finset.mem_filter.mp ha).2
    exact Fin.ext (by show j.val + a.val - N + N - j.val = a.val; omega)
  · intro i hi
    have := (Finset.mem_filter.mp hi).2
    rw [Fin.le_def] at this
    exact Fin.ext (by show j.val + (i.val + N - j.val) - N = i.val; omega)
  · intro a ha
    exact dif_pos (Finset.mem_filter.mp ha).2

/-- A running sum up to row `r` of block `c`: the block's own running sum, and the whole of every earlier block. -/
theorem sum_blocks {M : Type*} [AddCommMonoid M] {N : ℕ} (f : Fin (4 * N) → M) (g : Fin 4 → Fin N → M)
    (hg : ∀ (d : Fin 4) (a : Fin N) (i : Fin (4 * N)), i.val = d.val * N + a.val → f i = g d a)
    (c : Fin 4) (r : Fin N) (j : Fin (4 * N)) (hj : j.val = c.val * N + r.val) :
    (∑ i, if i ≤ j then f i else 0)
      = (∑ a, if a ≤ r then g c a else 0)
        + (((0 + if 0 < c then ∑ a, g 0 a else 0) + if 1 < c then ∑ a, g 1 a else 0) + if 2 < c then ∑ a, g 2 a else 0) := by
  have hpart : ∀ d : Fin 4, (∑ a : Fin N, if finProdFinEquiv (d, a) ≤ j then f (finProdFinEquiv (d, a)) else 0)
      = if d < c then ∑ a, g d a else if d = c then ∑ a, (if a ≤ r then g c a else 0) else 0 := by
    intro d
    have hv : ∀ a : Fin N, (finProdFinEquiv (d, a)).val = d.val * N + a.val := fun a => by
      rw [finProdFinEquiv_apply_val, Nat.add_comm, Nat.mul_comm]
    have hf : ∀ a : Fin N, f (finProdFinEquiv (d, a)) = g d a := fun a => hg d a _ (hv a)
    have hle : ∀ a : Fin N, finProdFinEquiv (d, a) ≤ j ↔ d.val * N + a.val ≤ c.val * N + r.val := fun a => by
      rw [Fin.le_def, hv, hj]
    simp only [hf, hle]
    have hr := r.isLt
    by_cases hd : d < c
    · rw [if_pos hd]
      refine Finset.sum_congr rfl fun a _ => if_pos ?_
      have h1 : (d.val + 1) * N ≤ c.val * N := Nat.mul_le_mul_right N (Fin.lt_def.mp hd)
      have h2 := a.isLt
      rw [Nat.add_mul, Nat.one_mul] at h1
      omega
    · rw [if_neg hd]
      by_cases he : d = c
      · subst he
        rw [if_pos rfl]
        refine Finset.sum_congr rfl fun a _ => if_congr ?_ rfl rfl
        rw [Fin.le_def]
        omega
      · rw [if_neg he]
        refine Finset.sum_eq_zero fun a _ => if_neg ?_
        have h0 : c.val < d.val := by
          have : d.val ≠ c.val := fun e => he (Fin.ext e)
          rw [Fin.lt_def] at hd
          omega
        have h1 : (c.val + 1) * N ≤ d.val * N := Nat.mul_le_mul_right N h0
        rw [Nat.add_mul, Nat.one_mul] at h1
        omega
  rw [← Equiv.sum_comp finProdFinEquiv, Fintype.sum_prod_type, Finset.sum_congr rfl fun d _ => hpart d, Fin.sum_univ_four]
  generalize (∑ a, if a ≤ r then g c a else 0) = p
  match c with
  | 0 => simp
  | 1 => simp [add_comm]
  | 2 => simp; abel
  | 3 => simp; abel

/-! ## The window reduction -/

/-- The cumulative sum along the rows, at an index: the sum of the column's entries up to that row. -/
theorem reduceWindowAdd_rows {N C : ℕ} {u : Shape} (x : FVec Ideal ⟨2, ![N + 1, C]⟩ .f32) (init : FVec Ideal u .f32)
    (h : (⟨2, ![N + 1, C]⟩ : Shape).ReduceWindows (![N + 1, 1] : Fin 2 → ℕ) ![1, 1] ![N, 0] ![0, 0] ⟨2, ![N + 1, C]⟩)
    (hu : 0 < u.numel) (hinit : init (Shape.Idx.first hu) = 0) (j : Fin (N + 1)) (n : Fin C) :
    Host.reduceWindowAdd ![N + 1, 1] ![1, 1] ![N, 0] ![0, 0] x init h hu (ix2 j n)
      = ∑ i : Fin (N + 1), if i ≤ j then x (ix2 i n) else 0 := by
  unfold Host.reduceWindowAdd
  rw [Ideal.hostReduceWindowAdd_def, hinit]
  unfold Ideal.hostReduceWindowAdd Host.reduceWindow
  refine (foldl_add_sum _ _ _).trans ?_
  rw [zero_add, ← Fin.sum_univ_def, ← Equiv.sum_comp (Shape.rowMajor ⟨2, ![N + 1, 1]⟩)]
  refine (sum_idx2 (n0 := N + 1) (n1 := 1) _).trans ?_
  rw [← sum_window_ends (fun i => x (ix2 i n)) j]
  refine Finset.sum_congr rfl fun a _ => ?_
  rw [Fin.sum_univ_one]
  simp only [Equiv.symm_apply_apply]
  have hj := j.isLt
  have ha := a.isLt
  have hn := n.isLt
  by_cases hle : N ≤ j.val + a.val
  · rw [dif_pos hle, dif_pos]
    · refine congrArg x (funext fun b => Fin.ext ?_)
      match b with
      | ⟨0, _⟩ => show j.val * 1 + a.val - N = j.val + a.val - N; rw [Nat.mul_one]
      | ⟨1, _⟩ => show n.val * 1 + 0 - 0 = n.val; omega
    · intro b
      match b with
      | ⟨0, _⟩ => show N ≤ j.val * 1 + a.val ∧ j.val * 1 + a.val - N < N + 1; omega
      | ⟨1, _⟩ => show 0 ≤ n.val * 1 + 0 ∧ n.val * 1 + 0 - 0 < C; omega
  · rw [dif_neg hle, dif_neg]
    intro hin
    have h0 : N ≤ j.val * 1 + a.val ∧ j.val * 1 + a.val - N < N + 1 := hin 0
    omega

end Cert.ScanProof
-- ==== Proof.Value.lean ====
/-
# The kernel's result is the cumulative sum

Each device's result, read at an index over the extended reals, is the running sum of the whole array's column up to
the row that index stands for.
-/
module

public import proofs.«01_k».proof.Proof.Run
public import proofs.«01_k».proof.Proof.Sums
public import Idealize.ShloMosaic.Lib.MatmulPlain
public import Idealize.ShloMosaic.Lib.ValueLayout
public import Idealize.ShloMosaic.Lib.WordCmp
public import Idealize.ShloMosaic.Lib.Layout

@[expose] public section

noncomputable section

namespace Cert.ScanProof

open Cert.KernelIdeal Cert.KernelIdeal.Gen

open Idealize.ShloMosaic Idealize.ShloMosaic.ValueIdx
open Idealize.ShloMosaic.TcCoe

/-! ## The payloads at an index -/

/-- The triangle's entry: one on and below the diagonal, zero above it. -/
theorem triangle_at (r k : Fin 512) :
    (sitofp .f32 (extui 32 (cmpi .sge (iota .tc S512x512 32 [0] iota_S512x512_d0_w32) (iota .tc S512x512 32 [1] iota_S512x512_d1_w32)) natLt_1_32)
      : FVec Ideal S512x512 .f32) (ix2 r k) = if k ≤ r then 1 else 0 := by
  have hr := r.isLt
  have hk := k.isLt
  have hw : (cmpi .sge (iota .tc S512x512 32 [0] iota_S512x512_d0_w32) (iota .tc S512x512 32 [1] iota_S512x512_d1_w32) : IVec S512x512 1) (ix2 r k)
      = BitVec.ofBool (decide (k.val ≤ r.val)) := by
    show IntOp.cmpi .sge (iota .tc S512x512 32 [0] iota_S512x512_d0_w32 (ix2 r k)) (iota .tc S512x512 32 [1] iota_S512x512_d1_w32 (ix2 r k)) = _
    rw [WordCmp.iota_at, WordCmp.iota_at]
    simp only [List.foldl_cons, List.foldl_nil, Nat.zero_mul, Nat.zero_add]
    exact WordCmp.cmpi_sge_ofNat (w := 32) (lt_of_lt_of_le hr (by decide)) (lt_of_lt_of_le hk (by decide))
  rw [sitofp_apply, extui_apply, hw]
  show ((BitVec.setWidth 32 (BitVec.ofBool (decide (k.val ≤ r.val)))).toInt : ℝ) = (_ : EReal)
  by_cases h : k ≤ r
  · rw [if_pos h, decide_eq_true (Fin.le_def.mp h)]; simp
  · rw [if_neg h, decide_eq_false (fun e => h (Fin.le_def.mpr e))]; simp

/-- The product with the triangle is the running sum of the column. -/
theorem prefix_at (x : Vec Ideal S512x512 .f32) (r n : Fin 512) :
    k0_pay2 x (ix2 r n) = ∑ k : Fin 512, if k ≤ r then x (ix2 k n) else 0 := by
  unfold k0_pay2
  dsimp only
  refine (Ideal.matmul_plain_apply (φ₁ := .f32) (φ₂ := .f32) none _ x _ r n).trans ?_
  rw [constant_apply, Ideal.ofBits_zero_f32, zero_add]
  refine Finset.sum_congr rfl fun k _ => ?_
  rw [triangle_at]
  split
  · exact one_mul _
  · exact zero_mul _

/-- A device's row of column sums. -/
theorem total_at (x : Vec Ideal S512x512 .f32) (n : Fin 512) :
    k0_pay1 x (ix2 (0 : Fin 1) n) = ∑ a : Fin 512, x (ix2 a n) := by
  unfold k0_pay1
  dsimp only
  refine (shapeCast_a_1a_apply _ _ (0 : Fin 1) n).trans ?_
  refine (Ideal.multiReduction_add_single x _ reduces_S512x512_S512 _ _ (ix1 n)).trans ?_
  refine Finset.sum_congr rfl fun a _ => congrArg x (funext fun b => Fin.ext ?_)
  match b with
  | ⟨0, _⟩ => rfl
  | ⟨1, _⟩ => rfl

/-- A row loaded from a slot and cast to a vector is the row. -/
theorem row_at (t : Vec Ideal S1x512 .f32) (n : Fin 512) :
    shapeCast S512 (row t) shapeCasts_S1x1x512_S512 (ix1 n) = t (ix2 (0 : Fin 1) n) := by
  refine (shapeCast_apply (row t) shapeCasts_S1x1x512_S512 (ix1 n) (ix3 (0 : Fin 1) (0 : Fin 1) n) (by
    rw [Shape.rowMajor_val_three, Shape.rowMajor_val_one]
    show ((0 * 1 + 0) * 512 + n.val) = n.val
    omega)).trans ?_
  unfold row
  exact congrArg t ((Equiv.symm_apply_eq _).mpr (reshapeEquiv_ix2_1ab (a := 1) (b := 512) _ (0 : Fin 1) n).symm)

/-- A slot counts exactly when its device comes before `c`. -/
theorem slot_at (c k : Dev nD) {w : BitVec 32} (hw : w = Dev.word k) (t : Vec Ideal S1x512 .f32) (n : Fin 512) :
    (Scalar.select (Scalar.cmpi .sgt (posWord c) w) (shapeCast S512 (row t) shapeCasts_S1x1x512_S512)
        (broadcast S512 (Scalar.ofBits .f32 0x00000000#32 : Ideal .f32)) : FVec Ideal S512 .f32) (ix1 n)
      = if k < c then t (ix2 (0 : Fin 1) n) else 0 := by
  subst hw
  by_cases hk : k < c
  · rw [(pos_gt c k).mpr hk, select_one, if_pos hk, row_at]
  · rw [eq_zero_of_ne_one fun e => hk ((pos_gt c k).mp e), select_zero, if_neg hk]
    exact Ideal.ofBits_zero_f32

/-- The result at an index: the block's own running sum, and the column sums of the earlier devices. -/
theorem result_at (c : Dev nD) (v : FVec Ideal S512x512 .f32) (t : Dev nD → Vec Ideal S1x512 .f32) (r n : Fin 512) :
    k0_pay3 (posWord c) v (row (t 0)) (row (t 1)) (row (t 2)) (ix2 r n)
      = v (ix2 r n) + (((0 + if 0 < c then t 0 (ix2 (0 : Fin 1) n) else 0) + if 1 < c then t 1 (ix2 (0 : Fin 1) n) else 0)
          + if 2 < c then t 2 (ix2 (0 : Fin 1) n) else 0) := by
  unfold k0_pay3
  rw [addf_apply]
  refine congrArg (v (ix2 r n) + ·) ((broadcastTo_1b_ab_apply _ _ r n).trans ((shapeCast_a_1a_apply _ _ (0 : Fin 1) n).trans ?_))
  rw [addf_apply, addf_apply, addf_apply, slot_at c 0 (w := 0#32) rfl, slot_at c 1 (w := 1#32) rfl, slot_at c 2 (w := 2#32) rfl, broadcast_apply]
  exact congrArg (fun z : EReal => ((z + _) + _) + _) Ideal.ofBits_zero_f32

/-! ## The equation -/

/-- From blocks of an array, a device's result at an index is its block of the array's cumulative sum there. -/
theorem out_cumsum_at (m : (ℓ : Loc nD τ sig) → Buf (Elt Ideal) ℓ) (y : FVec Ideal ⟨2, ![2048, 512]⟩ .f32)
    (hT : Layout.Tiles ⟨2, ![512, 512]⟩ ⟨2, ![2048, 512]⟩ 0 4)
    (hx : ∀ c : Dev nD, xin m c = Layout.block ⟨2, ![512, 512]⟩ ⟨2, ![2048, 512]⟩ 0 4 c y hT) {u : Shape} (init : FVec Ideal u .f32)
    (h : (⟨2, ![2048, 512]⟩ : Shape).ReduceWindows (![2048, 1] : Fin 2 → ℕ) ![1, 1] ![2047, 0] ![0, 0] ⟨2, ![2048, 512]⟩)
    (hu : 0 < u.numel) (hinit : init (Shape.Idx.first hu) = 0) (c : Dev nD) (r n : Fin 512) :
    outAt m c (ix2 r n) = Layout.block ⟨2, ![512, 512]⟩ ⟨2, ![2048, 512]⟩ 0 4 c
      (Host.reduceWindowAdd ![2048, 1] ![1, 1] ![2047, 0] ![0, 0] y init h hu) hT (ix2 r n) := by
  have hat : ∀ (d : Fin 4) (a : Fin 512) (i : Fin 2048), i.val = d.val * 512 + a.val → hT.idx d (ix2 a n) = ix2 i n := by
    intro d a i hi
    funext b
    refine Fin.ext ?_
    match b with
    | ⟨0, _⟩ => exact (Layout.idx_rows_val hT d (ix2 a n)).1.trans hi.symm
    | ⟨1, _⟩ => exact (Layout.idx_rows_val hT d (ix2 a n)).2
  have hlt : c.val * 512 + r.val < 2048 := by
    have h1 : c.val < 4 := c.isLt
    have h2 := r.isLt
    omega
  have hcell : ∀ (d : Dev nD) (a : Fin 512) (i : Fin 2048), i.val = d.val * 512 + a.val → y (ix2 i n) = xin m d (ix2 a n) := by
    intro d a i hi
    rw [hx d, Layout.block_apply, hat d a i hi]
  rw [Layout.block_apply, hat c r ⟨c.val * 512 + r.val, hlt⟩ rfl]
  refine Eq.trans ?_ (reduceWindowAdd_rows (N := 2047) y init h hu hinit ⟨c.val * 512 + r.val, hlt⟩ n).symm
  refine Eq.trans ?_ (sum_blocks (N := 512) (fun i => y (ix2 i n)) (fun d a => xin m d (ix2 a n)) hcell c r ⟨c.val * 512 + r.val, hlt⟩ rfl).symm
  unfold outAt
  rw [result_at c _ (fun d => tot m d), prefix_at]
  unfold tot
  rw [total_at, total_at, total_at]

/-- From blocks of an array, every device leaves its block of the array's cumulative sum. -/
theorem out_cumsum (m : (ℓ : Loc nD τ sig) → Buf (Elt Ideal) ℓ) (y : FVec Ideal ⟨2, ![2048, 512]⟩ .f32)
    (hT : Layout.Tiles ⟨2, ![512, 512]⟩ ⟨2, ![2048, 512]⟩ 0 4)
    (hx : ∀ c : Dev nD, xin m c = Layout.block ⟨2, ![512, 512]⟩ ⟨2, ![2048, 512]⟩ 0 4 c y hT) {u : Shape} (init : FVec Ideal u .f32)
    (h : (⟨2, ![2048, 512]⟩ : Shape).ReduceWindows (![2048, 1] : Fin 2 → ℕ) ![1, 1] ![2047, 0] ![0, 0] ⟨2, ![2048, 512]⟩)
    (hu : 0 < u.numel) (hinit : init (Shape.Idx.first hu) = 0) (c : Dev nD) :
    outAt m c = Layout.block ⟨2, ![512, 512]⟩ ⟨2, ![2048, 512]⟩ 0 4 c
      (Host.reduceWindowAdd ![2048, 1] ![1, 1] ![2047, 0] ![0, 0] y init h hu) hT := by
  funext j
  rw [eq_ix2 j]
  exact out_cumsum_at m y hT hx init h hu hinit c (j 0) (j 1)

end Cert.ScanProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Run
public import proofs.«01_k».proof.Proof.Value
public import proofs.«01_k».proof.Proof.Gen.ReferenceIdeal.Run

@[expose] public section

noncomputable section

namespace Cert.Proof

open Idealize.ShloMosaic Idealize.SL.Sem Cert.Kernel

/-- The kernel's run for any float values, its result forgotten. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.ScanProof.run_main m ρ)

/-- The two programs have the same text, so the same table of bodies: each label's body is compared at that label. -/
theorem defs_eq {F : FTy → Type} [FloatOps F] : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    refine congrArg Defs.onTc (funext fun l => funext fun a => ?_)
    match l, a with
    | ⟨0, _⟩, (t, s) => rfl
  exact congrArg (Pipeline.defs Cert.KernelIdeal.pcfgs) h

/-- The kernel's run over the words of the hardware. -/
theorem frame_kernel : Cert.quiescent_Kernel := by
  intro m ρ _
  rw [defs_eq]
  exact frame_any (F := Bits) m ρ

/-- The kernel's run over the extended reals. -/
theorem frame_kernelIdeal : Cert.quiescent_KernelIdeal := fun m ρ _ => frame_any (F := Ideal) m ρ

/-- The reference's run: it names no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Every device ends with its block of the cumulative sum. -/
theorem value : Cert.algebraic_KernelIdeal_ReferenceIdeal := fun m ρ m' ρ' _ hm =>
  ⟨_, (θ_run Cert.KernelIdeal.defs _ _).mono
      (fun _ h c => ⟨(h.1 c).1.trans (Cert.ScanProof.out_cumsum m _ _ hm _ _ _ Ideal.ofBits_zero_f32 c), (h.1 c).2⟩)
      (Cert.ScanProof.run_main (F := Ideal) m ρ),
    (θ_run Cert.ReferenceIdeal.defs _ _).mono (fun _ h => h 0) (Cert.ReferenceIdeal.Value.run m' ρ')⟩

/-- The five claims. -/
theorem claim : Cert.Claim := ⟨Cert.Kernel.Gen.facts, Cert.KernelIdeal.Gen.facts, Cert.ReferenceIdeal.Gen.facts,
  frame_kernel, frame_kernelIdeal, frame_reference, trivial, value⟩

end Cert.Proof
